-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .bf16) (main_arg1 : FVec F S512x128 .bf16) (main_arg2 : IVec S1024x1 32) (main_arg3 : FVec F S4x512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 128#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Pre_routed_ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .bf16) (main_arg1 : FVec F S512x128 .bf16) (main_arg2 : IVec S1024x1 32) (main_arg3 : FVec F S128x512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 128#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S_ : Shape := ⟨0, ![]⟩
abbrev S1024 : Shape := ⟨1, ![1024]⟩
abbrev S128 : Shape := ⟨1, ![128]⟩
abbrev S1x128 : Shape := ⟨2, ![1, 128]⟩
abbrev S1024x128 : Shape := ⟨2, ![1024, 128]⟩
abbrev S1024x1x1 : Shape := ⟨3, ![1024, 1, 1]⟩
abbrev S1 : Shape := ⟨1, ![1]⟩
abbrev S1x1x1 : Shape := ⟨3, ![1, 1, 1]⟩
abbrev S25 : Shape := ⟨1, ![25]⟩
abbrev S24 : Shape := ⟨1, ![24]⟩
abbrev S24x1 : Shape := ⟨2, ![24, 1]⟩
abbrev S24x512 : Shape := ⟨2, ![24, 512]⟩
abbrev S4x6x512 : Shape := ⟨3, ![4, 6, 512]⟩
abbrev S4x6x1024 : Shape := ⟨3, ![4, 6, 1024]⟩
abbrev S24x1024 : Shape := ⟨2, ![24, 1024]⟩
abbrev S768x1024 : Shape := ⟨2, ![768, 1024]⟩
abbrev S5 : Shape := ⟨1, ![5]⟩
abbrev S48x1024 : Shape := ⟨2, ![48, 1024]⟩
abbrev S96x1024 : Shape := ⟨2, ![96, 1024]⟩
abbrev S192x1024 : Shape := ⟨2, ![192, 1024]⟩
abbrev S384x1024 : Shape := ⟨2, ![384, 1024]⟩
abbrev S32 : Shape := ⟨1, ![32]⟩
abbrev S32x1 : Shape := ⟨2, ![32, 1]⟩
abbrev S32x1024 : Shape := ⟨2, ![32, 1024]⟩

abbrev nBuf : Space → Nat
  | .hbm => 219
  | .vmem => 2
  | .smem => 0
  | _ => 0

abbrev hbmTy0_0 (i : Nat) : BufTy := match i % 128 with
  | 0 => ⟨S1024x512, .bf16⟩
  | 1 => ⟨S512x128, .bf16⟩
  | 2 => ⟨S1024x1, .i32⟩
  | 3 => ⟨S4x512x1024, .bf16⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S1024, .i32⟩
  | 11 => ⟨S1024x1, .i32⟩
  | 12 => ⟨S128, .i32⟩
  | 13 => ⟨S1x128, .i32⟩
  | 14 => ⟨S1024x128, .i32⟩
  | 15 => ⟨S1024x128, .i32⟩
  | 16 => ⟨S1024x128, .i1⟩
  | 17 => ⟨S1024x128, .i32⟩
  | 18 => ⟨S_, .i32⟩
  | 19 => ⟨S_, .i32⟩
  | 20 => ⟨S1024x128, .i32⟩
  | 21 => ⟨S1024x1, .i32⟩
  | 22 => ⟨S_, .i32⟩
  | 23 => ⟨S1024x1, .i32⟩
  | 24 => ⟨S1024x1, .i1⟩
  | 25 => ⟨S_, .i32⟩
  | 26 => ⟨S1024x1, .i32⟩
  | 27 => ⟨S1024x1, .i32⟩
  | 28 => ⟨S1024x1, .i32⟩
  | 29 => ⟨S1024x1x1, .i32⟩
  | 30 => ⟨S1, .i32⟩
  | 31 => ⟨S_, .i32⟩
  | 32 => ⟨S1024x1x1, .i32⟩
  | 33 => ⟨S1024x1x1, .i1⟩
  | 34 => ⟨S1x1x1, .i32⟩
  | 35 => ⟨S1024x1x1, .i32⟩
  | 36 => ⟨S1024x1x1, .i1⟩
  | 37 => ⟨S1024x1x1, .i1⟩
  | 38 => ⟨S_, .i1⟩
  | 39 => ⟨S1024x1, .i1⟩
  | 40 => ⟨S1024x1, .i32⟩
  | 41 => ⟨S_, .i32⟩
  | 42 => ⟨S1024x1, .i32⟩
  | 43 => ⟨S1024x1, .i32⟩
  | 44 => ⟨S1024, .i32⟩
  | 45 => ⟨S_, .i32⟩
  | 46 => ⟨S1024, .i32⟩
  | 47 => ⟨S1024, .i32⟩
  | 48 => ⟨S_, .i32⟩
  | 49 => ⟨S1024, .i32⟩
  | 50 => ⟨S1024, .i1⟩
  | 51 => ⟨S_, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i1⟩
  | 58 => ⟨S1024, .i1⟩
  | 59 => ⟨S_, .i32⟩
  | 60 => ⟨S1024, .i32⟩
  | 61 => ⟨S1024, .i1⟩
  | 62 => ⟨S1024, .i1⟩
  | 63 => ⟨S_, .i32⟩
  | 64 => ⟨S1024, .i32⟩
  | 65 => ⟨S1024, .i32⟩
  | 66 => ⟨S1024, .i32⟩
  | 67 => ⟨S_, .i32⟩
  | 68 => ⟨S_, .i32⟩
  | 69 => ⟨S1024, .i32⟩
  | 70 => ⟨S1024, .i32⟩
  | 71 => ⟨S1024, .i32⟩
  | 72 => ⟨S_, .i32⟩
  | 73 => ⟨S25, .i32⟩
  | 74 => ⟨S_, .i32⟩
  | 75 => ⟨S1024, .i32⟩
  | 76 => ⟨S1024, .i1⟩
  | 77 => ⟨S_, .i32⟩
  | 78 => ⟨S1024, .i32⟩
  | 79 => ⟨S1024, .i32⟩
  | 80 => ⟨S1024, .i32⟩
  | 81 => ⟨S1024x1, .i32⟩
  | 82 => ⟨S25, .i32⟩
  | 83 => ⟨S24, .i32⟩
  | 84 => ⟨S_, .f32⟩
  | 85 => ⟨S25, .f32⟩
  | 86 => ⟨S_, .i32⟩
  | 87 => ⟨S1024, .i32⟩
  | 88 => ⟨S1024, .i1⟩
  | 89 => ⟨S_, .i32⟩
  | 90 => ⟨S1024, .i32⟩
  | 91 => ⟨S1024, .i32⟩
  | 92 => ⟨S1024, .i32⟩
  | 93 => ⟨S1024x1, .i32⟩
  | 94 => ⟨S_, .f32⟩
  | 95 => ⟨S1024, .f32⟩
  | 96 => ⟨S25, .f32⟩
  | 97 => ⟨S24, .f32⟩
  | 98 => ⟨S_, .i32⟩
  | 99 => ⟨S24, .i32⟩
  | 100 => ⟨S24, .i1⟩
  | 101 => ⟨S_, .i32⟩
  | 102 => ⟨S24, .i32⟩
  | 103 => ⟨S24, .i32⟩
  | 104 => ⟨S24, .i32⟩
  | 105 => ⟨S24x1, .i32⟩
  | 106 => ⟨S24x512, .bf16⟩
  | 107 => ⟨S24x1, .f32⟩
  | 108 => ⟨S24x512, .f32⟩
  | 109 => ⟨S24x512, .f32⟩
  | 110 => ⟨S24x512, .f32⟩
  | 111 => ⟨S24x512, .bf16⟩
  | 112 => ⟨S4x6x512, .bf16⟩
  | 113 => ⟨S4x6x1024, .f32⟩
  | 114 => ⟨S4x6x1024, .bf16⟩
  | 115 => ⟨S24x1024, .bf16⟩
  | 116 => ⟨S768x1024, .bf16⟩
  | 117 => ⟨S_, .i32⟩
  | 118 => ⟨S_, .i32⟩
  | 119 => ⟨S32, .i32⟩
  | 120 => ⟨S32, .i32⟩
  | 121 => ⟨S32, .i32⟩
  | 122 => ⟨S_, .i32⟩
  | 123 => ⟨S32, .i32⟩
  | 124 => ⟨S32, .i1⟩
  | 125 => ⟨S_, .i32⟩
  | 126 => ⟨S32, .i32⟩
  | 127 => ⟨S32, .i32⟩
  | _ => ⟨S1024x512, .bf16⟩

abbrev hbmTy0_1 (i : Nat) : BufTy := match i % 128 with
  | 0 => ⟨S32, .i32⟩
  | 1 => ⟨S32x1, .i32⟩
  | 2 => ⟨S32, .i32⟩
  | 3 => ⟨S_, .i32⟩
  | 4 => ⟨S32, .i32⟩
  | 5 => ⟨S32, .i1⟩
  | 6 => ⟨S_, .i32⟩
  | 7 => ⟨S32, .i32⟩
  | 8 => ⟨S32, .i32⟩
  | 9 => ⟨S32, .i32⟩
  | 10 => ⟨S32x1, .i32⟩
  | 11 => ⟨S32, .i32⟩
  | 12 => ⟨S_, .i32⟩
  | 13 => ⟨S_, .i32⟩
  | 14 => ⟨S_, .i32⟩
  | 15 => ⟨S32, .i32⟩
  | 16 => ⟨S32, .i32⟩
  | 17 => ⟨S_, .i32⟩
  | 18 => ⟨S32, .i32⟩
  | 19 => ⟨S32, .i32⟩
  | 20 => ⟨S_, .i32⟩
  | 21 => ⟨S_, .i32⟩
  | 22 => ⟨S32, .i32⟩
  | 23 => ⟨S32, .i32⟩
  | 24 => ⟨S32, .i32⟩
  | 25 => ⟨S_, .i32⟩
  | 26 => ⟨S32, .i32⟩
  | 27 => ⟨S32, .i1⟩
  | 28 => ⟨S32, .i32⟩
  | 29 => ⟨S32, .i32⟩
  | 30 => ⟨S_, .i32⟩
  | 31 => ⟨S32, .i32⟩
  | 32 => ⟨S32, .i1⟩
  | 33 => ⟨S32, .i1⟩
  | 34 => ⟨S_, .i32⟩
  | 35 => ⟨S32, .i32⟩
  | 36 => ⟨S32, .i32⟩
  | 37 => ⟨S32, .i32⟩
  | 38 => ⟨S_, .i32⟩
  | 39 => ⟨S32, .i32⟩
  | 40 => ⟨S32, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S32, .i32⟩
  | 48 => ⟨S32, .i32⟩
  | 49 => ⟨S_, .i32⟩
  | 50 => ⟨S32, .i32⟩
  | 51 => ⟨S32, .i1⟩
  | 52 => ⟨S_, .i32⟩
  | 53 => ⟨S32, .i32⟩
  | 54 => ⟨S32, .i1⟩
  | 55 => ⟨S_, .i32⟩
  | 56 => ⟨S_, .i1⟩
  | 57 => ⟨S32, .i1⟩
  | 58 => ⟨S32, .i1⟩
  | 59 => ⟨S32, .i1⟩
  | 60 => ⟨S32, .i32⟩
  | 61 => ⟨S32, .i32⟩
  | 62 => ⟨S32, .i32⟩
  | 63 => ⟨S_, .i32⟩
  | 64 => ⟨S32, .i32⟩
  | 65 => ⟨S32, .i32⟩
  | 66 => ⟨S32, .i32⟩
  | 67 => ⟨S32, .i32⟩
  | 68 => ⟨S_, .i32⟩
  | 69 => ⟨S32, .i32⟩
  | 70 => ⟨S32, .i1⟩
  | 71 => ⟨S_, .i32⟩
  | 72 => ⟨S32, .i32⟩
  | 73 => ⟨S32, .i32⟩
  | 74 => ⟨S32, .i32⟩
  | 75 => ⟨S32x1, .i32⟩
  | 76 => ⟨S32x1024, .bf16⟩
  | 77 => ⟨S32x1024, .f32⟩
  | 78 => ⟨S_, .i32⟩
  | 79 => ⟨S32, .i32⟩
  | 80 => ⟨S32, .i1⟩
  | 81 => ⟨S_, .i32⟩
  | 82 => ⟨S32, .i32⟩
  | 83 => ⟨S32, .i32⟩
  | 84 => ⟨S32, .i32⟩
  | 85 => ⟨S32x1, .i32⟩
  | 86 => ⟨S32, .i1⟩
  | 87 => ⟨S32x1, .i1⟩
  | 88 => ⟨S32x1, .f32⟩
  | 89 => ⟨S32x1024, .f32⟩
  | 90 => ⟨S32x1024, .f32⟩
  | _ => ⟨S1024x512, .bf16⟩

abbrev hbmTy (i : Nat) : BufTy := match i / 128 with
  | 0 => hbmTy0_0 i
  | 1 => hbmTy0_1 i
  | _ => ⟨S1024x512, .bf16⟩

abbrev bufTy : (tb : Table) → Fin (tcTables nBuf tb) → BufTy
  | .hbm, ⟨i, _⟩ => hbmTy i
  | .local _ .vmem, ⟨0, _⟩ => ⟨S24x1024, .bf16⟩
  | .local _ .vmem, ⟨1, _⟩ => ⟨S768x1024, .bf16⟩
  | _, _ => ⟨S1024x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_call0_c : Ref sig .tc := ⟨.hbm, 18, rfl⟩
abbrev main_call0_call0_v0 : Ref sig .tc := ⟨.hbm, 19, rfl⟩
abbrev main_v13 : Ref sig .tc := ⟨.hbm, 20, rfl⟩
abbrev main_v14 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_c_4 : Ref sig .tc := ⟨.hbm, 41, rfl⟩
abbrev main_call1_v14 : Ref sig .tc := ⟨.hbm, 42, rfl⟩
abbrev main_v15 : Ref sig .tc := ⟨.hbm, 43, rfl⟩
abbrev main_v16 : Ref sig .tc := ⟨.hbm, 44, rfl⟩
abbrev main_c_1 : Ref sig .tc := ⟨.hbm, 45, rfl⟩
abbrev main_v17 : Ref sig .tc := ⟨.hbm, 46, rfl⟩
abbrev main_v18 : Ref sig .tc := ⟨.hbm, 47, rfl⟩
abbrev main_c_2 : Ref sig .tc := ⟨.hbm, 48, rfl⟩
abbrev main_v19 : Ref sig .tc := ⟨.hbm, 49, rfl⟩
abbrev main_v20 : Ref sig .tc := ⟨.hbm, 50, rfl⟩
abbrev main_c_3 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_6 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_7 : Ref sig .tc := ⟨.hbm, 67, rfl⟩
abbrev main_call2_v0 : Ref sig .tc := ⟨.hbm, 68, rfl⟩
abbrev main_call2_v1 : Ref sig .tc := ⟨.hbm, 69, rfl⟩
abbrev main_v33 : Ref sig .tc := ⟨.hbm, 70, rfl⟩
abbrev main_v34 : Ref sig .tc := ⟨.hbm, 71, rfl⟩
abbrev main_c_8 : Ref sig .tc := ⟨.hbm, 72, rfl⟩
abbrev main_v35 : Ref sig .tc := ⟨.hbm, 73, rfl⟩
abbrev main_c_9 : Ref sig .tc := ⟨.hbm, 74, rfl⟩
abbrev main_v36 : Ref sig .tc := ⟨.hbm, 75, rfl⟩
abbrev main_v37 : Ref sig .tc := ⟨.hbm, 76, rfl⟩
abbrev main_c_10 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst : Ref sig .tc := ⟨.hbm, 84, rfl⟩
abbrev main_v44 : Ref sig .tc := ⟨.hbm, 85, rfl⟩
abbrev main_c_11 : Ref sig .tc := ⟨.hbm, 86, rfl⟩
abbrev main_v45 : Ref sig .tc := ⟨.hbm, 87, rfl⟩
abbrev main_v46 : Ref sig .tc := ⟨.hbm, 88, rfl⟩
abbrev main_c_12 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_13 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_14 : Ref sig .tc := ⟨.hbm, 98, rfl⟩
abbrev main_v54 : Ref sig .tc := ⟨.hbm, 99, rfl⟩
abbrev main_v55 : Ref sig .tc := ⟨.hbm, 100, rfl⟩
abbrev main_c_15 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_c_16 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_c_17 : Ref sig .tc := ⟨.hbm, 122, rfl⟩
abbrev main_v75 : Ref sig .tc := ⟨.hbm, 123, rfl⟩
abbrev main_v76 : Ref sig .tc := ⟨.hbm, 124, rfl⟩
abbrev main_c_18 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_19 : Ref sig .tc := ⟨.hbm, 131, rfl⟩
abbrev main_v82 : Ref sig .tc := ⟨.hbm, 132, rfl⟩
abbrev main_v83 : Ref sig .tc := ⟨.hbm, 133, rfl⟩
abbrev main_c_20 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_21 : Ref sig .tc := ⟨.hbm, 140, rfl⟩
abbrev main_c_22 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_v89 : Ref sig .tc := ⟨.hbm, 147, rfl⟩
abbrev main_c_23 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_v6 : Ref sig .tc := ⟨.hbm, 155, rfl⟩
abbrev main_call4_v7 : Ref sig .tc := ⟨.hbm, 156, rfl⟩
abbrev main_call4_v8 : Ref sig .tc := ⟨.hbm, 157, rfl⟩
abbrev main_call4_c : Ref sig .tc := ⟨.hbm, 158, rfl⟩
abbrev main_call4_v9 : Ref sig .tc := ⟨.hbm, 159, rfl⟩
abbrev main_call4_v10 : Ref sig .tc := ⟨.hbm, 160, rfl⟩
abbrev main_call4_v11 : Ref sig .tc := ⟨.hbm, 161, rfl⟩
abbrev main_call4_c_0 : Ref sig .tc := ⟨.hbm, 162, rfl⟩
abbrev main_call4_v12 : Ref sig .tc := ⟨.hbm, 163, rfl⟩
abbrev main_call4_v13 : Ref sig .tc := ⟨.hbm, 164, rfl⟩
abbrev main_v90 : Ref sig .tc := ⟨.hbm, 165, rfl⟩
abbrev main_c_24 : Ref sig .tc := ⟨.hbm, 166, rfl⟩
abbrev main_v91 : Ref sig .tc := ⟨.hbm, 167, rfl⟩
abbrev main_v92 : Ref sig .tc := ⟨.hbm, 168, rfl⟩
abbrev main_c_25 : Ref sig .tc := ⟨.hbm, 169, rfl⟩
abbrev main_call5_v0 : Ref sig .tc := ⟨.hbm, 170, rfl⟩
abbrev main_call5_c : Ref sig .tc := ⟨.hbm, 171, rfl⟩
abbrev main_call5_v1 : Ref sig .tc := ⟨.hbm, 172, rfl⟩
abbrev main_call5_c_0 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_call5_c_1 : Ref sig .tc := ⟨.hbm, 177, rfl⟩
abbrev main_call5_v5 : Ref sig .tc := ⟨.hbm, 178, rfl⟩
abbrev main_call5_v6 : Ref sig .tc := ⟨.hbm, 179, rfl⟩
abbrev main_call5_c_2 : Ref sig .tc := ⟨.hbm, 180, rfl⟩
abbrev main_call5_v7 : Ref sig .tc := ⟨.hbm, 181, rfl⟩
abbrev main_call5_v8 : Ref sig .tc := ⟨.hbm, 182, rfl⟩
abbrev main_call5_c_3 : Ref sig .tc := ⟨.hbm, 183, rfl⟩
abbrev main_call5_v9 : Ref sig .tc := ⟨.hbm, 184, rfl⟩
abbrev main_call5_v10 : Ref sig .tc := ⟨.hbm, 185, rfl⟩
abbrev main_call5_v11 : Ref sig .tc := ⟨.hbm, 186, rfl⟩
abbrev main_call5_v12 : Ref sig .tc := ⟨.hbm, 187, rfl⟩
abbrev main_call5_v13 : Ref sig .tc := ⟨.hbm, 188, rfl⟩
abbrev main_call5_v14 : Ref sig .tc := ⟨.hbm, 189, rfl⟩
abbrev main_v93 : Ref sig .tc := ⟨.hbm, 190, rfl⟩
abbrev main_c_26 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_c_27 : Ref sig .tc := ⟨.hbm, 196, rfl⟩
abbrev main_v98 : Ref sig .tc := ⟨.hbm, 197, rfl⟩
abbrev main_v99 : Ref sig .tc := ⟨.hbm, 198, rfl⟩
abbrev main_c_28 : Ref sig .tc := ⟨.hbm, 199, rfl⟩
abbrev main_v100 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_c_29 : Ref sig .tc := ⟨.hbm, 206, rfl⟩
abbrev main_v106 : Ref sig .tc := ⟨.hbm, 207, rfl⟩
abbrev main_v107 : Ref sig .tc := ⟨.hbm, 208, rfl⟩
abbrev main_c_30 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v21 : BitVec 32 := Scalar.muli v2 c24_i32
  let v22 : Index := Scalar.indexCast v21
  let c0_16 : Index := 0#32
  ![v22.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_18 : BitVec 32 := 0#32
  let v25 : BitVec 1 := Scalar.cmpi .sgt v2 c0_i32_18
  let v26 : BitVec 32 := Scalar.extui v25
  let c0_i32_19 : BitVec 32 := 0#32
  let v27 : BitVec 1 := Scalar.cmpi .slt v2 c0_i32_19
  let v28 : BitVec 32 := Scalar.extui v27
  let v29 : BitVec 32 := Scalar.subi v26 v28
  let c1_i32_17 : BitVec 32 := 1#32
  let c0_i32_20 : BitVec 32 := 0#32
  let v30 : BitVec 1 := Scalar.cmpi .sgt c1_i32_17 c0_i32_20
  let v31 : BitVec 32 := Scalar.extui v30
  let c0_i32_21 : BitVec 32 := 0#32
  let v32 : BitVec 1 := Scalar.cmpi .slt c1_i32_17 c0_i32_21
  let v33 : BitVec 32 := Scalar.extui v32
  let v34 : BitVec 32 := Scalar.subi v31 v33
  let v35 : BitVec 1 := Scalar.cmpi .ne v29 v34
  let v36 : BitVec 32 := Scalar.remsi v2 c1_i32_17
  let c0_i32_22 : BitVec 32 := 0#32
  let v37 : BitVec 1 := Scalar.cmpi .ne v36 c0_i32_22
  let v38 : BitVec 1 := Scalar.andi v35 v37
  let v24 : BitVec 32 := Scalar.divsi v2 c1_i32_17
  let c1_i32_23 : BitVec 32 := 1#32
  let v39 : BitVec 32 := Scalar.subi v24 c1_i32_23
  let v40 : BitVec 32 := Scalar.select v38 v39 v24
  let c1_i32_24 : BitVec 32 := 1#32
  let v41 : BitVec 32 := Scalar.muli v40 c1_i32_24
  let c24_i32_26 : BitVec 32 := 24#32
  let v43 : BitVec 32 := Scalar.muli v41 c24_i32_26
  let c0_i32_32 : BitVec 32 := 0#32
  ![v43.toNat, 0]
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v44 : BitVec 32 := Scalar.xori v2 c1_i32_27
  let c1_i32_30 : BitVec 32 := 1#32
  let v45 : BitVec 32 := Scalar.muli v44 c1_i32_30
  let v46 : BitVec 32 := Scalar.addi c0_i32_31 v45
  v46.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_41 : BitVec 32 := 0#32
  let v60 : BitVec 1 := Scalar.cmpi .sgt v2 c0_i32_41
  let v61 : BitVec 32 := Scalar.extui v60
  let c0_i32_42 : BitVec 32 := 0#32
  let v62 : BitVec 1 := Scalar.cmpi .slt v2 c0_i32_42
  let v63 : BitVec 32 := Scalar.extui v62
  let v64 : BitVec 32 := Scalar.subi v61 v63
  let c2_i32_40 : BitVec 32 := 2#32
  let c0_i32_43 : BitVec 32 := 0#32
  let v65 : BitVec 1 := Scalar.cmpi .sgt c2_i32_40 c0_i32_43
  let v66 : BitVec 32 := Scalar.extui v65
  let c0_i32_44 : BitVec 32 := 0#32
  let v67 : BitVec 1 := Scalar.cmpi .slt c2_i32_40 c0_i32_44
  let v68 : BitVec 32 := Scalar.extui v67
  let v69 : BitVec 32 := Scalar.subi v66 v68
  let v70 : BitVec 1 := Scalar.cmpi .ne v64 v69
  let v71 : BitVec 32 := Scalar.remsi v2 c2_i32_40
  let c0_i32_45 : BitVec 32 := 0#32
  let v72 : BitVec 1 := Scalar.cmpi .ne v71 c0_i32_45
  let v73 : BitVec 1 := Scalar.andi v70 v72
  let v59 : BitVec 32 := Scalar.divsi v2 c2_i32_40
  let c1_i32_46 : BitVec 32 := 1#32
  let v74 : BitVec 32 := Scalar.subi v59 c1_i32_46
  let v75 : BitVec 32 := Scalar.select v73 v74 v59
  let c2_i32_47 : BitVec 32 := 2#32
  let v76 : BitVec 32 := Scalar.muli v75 c2_i32_47
  let c24_i32_49 : BitVec 32 := 24#32
  let v78 : BitVec 32 := Scalar.muli v76 c24_i32_49
  let c0_i32_55 : BitVec 32 := 0#32
  ![v78.toNat, 0]
def k0_dev7 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_50 : BitVec 32 := 2#32
  let v79 : BitVec 32 := Scalar.xori v2 c2_i32_50
  let c1_i32_53 : BitVec 32 := 1#32
  let v80 : BitVec 32 := Scalar.muli v79 c1_i32_53
  let v81 : BitVec 32 := Scalar.addi c0_i32_54 v80
  v81.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_64 : BitVec 32 := 0#32
  let v95 : BitVec 1 := Scalar.cmpi .sgt v2 c0_i32_64
  let v96 : BitVec 32 := Scalar.extui v95
  let c0_i32_65 : BitVec 32 := 0#32
  let v97 : BitVec 1 := Scalar.cmpi .slt v2 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi v2 c4_i32_63
  let c0_i32_68 : BitVec 32 := 0#32
  let v107 : BitVec 1 := Scalar.cmpi .ne v106 c0_i32_68
  let v108 : BitVec 1 := Scalar.andi v105 v107
  let v94 : BitVec 32 := Scalar.divsi v2 c4_i32_63
  let c1_i32_69 : BitVec 32 := 1#32
  let v109 : BitVec 32 := Scalar.subi v94 c1_i32_69
  let v110 : BitVec 32 := Scalar.select v108 v109 v94
  let c4_i32_70 : BitVec 32 := 4#32
  let v111 : BitVec 32 := Scalar.muli v110 c4_i32_70
  let c24_i32_72 : BitVec 32 := 24#32
  let v113 : BitVec 32 := Scalar.muli v111 c24_i32_72
  let c0_i32_78 : BitVec 32 := 0#32
  ![v113.toNat, 0]
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_73 : BitVec 32 := 4#32
  let v114 : BitVec 32 := Scalar.xori v2 c4_i32_73
  let c1_i32_76 : BitVec 32 := 1#32
  let v115 : BitVec 32 := Scalar.muli v114 c1_i32_76
  let v116 : BitVec 32 := Scalar.addi c0_i32_77 v115
  v116.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_87 : BitVec 32 := 0#32
  let v130 : BitVec 1 := Scalar.cmpi .sgt v2 c0_i32_87
  let v131 : BitVec 32 := Scalar.extui v130
  let c0_i32_88 : BitVec 32 := 0#32
  let v132 : BitVec 1 := Scalar.cmpi .slt v2 c0_i32_88
  let v133 : BitVec 32 := Scalar.extui v132
  let v134 : BitVec 32 := Scalar.subi v131 v133
  let c8_i32_86 : BitVec 32 := 8#32
  let c0_i32_89 : BitVec 32 := 0#32
  let v135 : BitVec 1 := Scalar.cmpi .sgt c8_i32_86 c0_i32_89
  let v136 : BitVec 32 := Scalar.extui v135
  let c0_i32_90 : BitVec 32 := 0#32
  let v137 : BitVec 1 := Scalar.cmpi .slt c8_i32_86 c0_i32_90
  let v138 : BitVec 32 := Scalar.extui v137
  let v139 : BitVec 32 := Scalar.subi v136 v138
  let v140 : BitVec 1 := Scalar.cmpi .ne v134 v139
  let v141 : BitVec 32 := Scalar.remsi v2 c8_i32_86
  let c0_i32_91 : BitVec 32 := 0#32
  let v142 : BitVec 1 := Scalar.cmpi .ne v141 c0_i32_91
  let v143 : BitVec 1 := Scalar.andi v140 v142
  let v129 : BitVec 32 := Scalar.divsi v2 c8_i32_86
  let c1_i32_92 : BitVec 32 := 1#32
  let v144 : BitVec 32 := Scalar.subi v129 c1_i32_92
  let v145 : BitVec 32 := Scalar.select v143 v144 v129
  let c8_i32_93 : BitVec 32 := 8#32
  let v146 : BitVec 32 := Scalar.muli v145 c8_i32_93
  let c24_i32_95 : BitVec 32 := 24#32
  let v148 : BitVec 32 := Scalar.muli v146 c24_i32_95
  let c0_i32_100 : BitVec 32 := 0#32
  ![v148.toNat, 0]
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_96 : BitVec 32 := 8#32
  let v149 : BitVec 32 := Scalar.xori v2 c8_i32_96
  let c1_i32_98 : BitVec 32 := 1#32
  let v150 : BitVec 32 := Scalar.muli v149 c1_i32_98
  let v151 : BitVec 32 := Scalar.addi c0_i32_99 v150
  v151.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_109 : BitVec 32 := 0#32
  let v165 : BitVec 1 := Scalar.cmpi .sgt v2 c0_i32_109
  let v166 : BitVec 32 := Scalar.extui v165
  let c0_i32_110 : BitVec 32 := 0#32
  let v167 : BitVec 1 := Scalar.cmpi .slt v2 c0_i32_110
  let v168 : BitVec 32 := Scalar.extui v167
  let v169 : BitVec 32 := Scalar.subi v166 v168
  let c16_i32_108 : BitVec 32 := 16#32
  let c0_i32_111 : BitVec 32 := 0#32
  let v170 : BitVec 1 := Scalar.cmpi .sgt c16_i32_108 c0_i32_111
  let v171 : BitVec 32 := Scalar.extui v170
  let c0_i32_112 : BitVec 32 := 0#32
  let v172 : BitVec 1 := Scalar.cmpi .slt c16_i32_108 c0_i32_112
  let v173 : BitVec 32 := Scalar.extui v172
  let v174 : BitVec 32 := Scalar.subi v171 v173
  let v175 : BitVec 1 := Scalar.cmpi .ne v169 v174
  let v176 : BitVec 32 := Scalar.remsi v2 c16_i32_108
  let c0_i32_113 : BitVec 32 := 0#32
  let v177 : BitVec 1 := Scalar.cmpi .ne v176 c0_i32_113
  let v178 : BitVec 1 := Scalar.andi v175 v177
  let v164 : BitVec 32 := Scalar.divsi v2 c16_i32_108
  let c1_i32_114 : BitVec 32 := 1#32
  let v179 : BitVec 32 := Scalar.subi v164 c1_i32_114
  let v180 : BitVec 32 := Scalar.select v178 v179 v164
  let c16_i32_115 : BitVec 32 := 16#32
  let v181 : BitVec 32 := Scalar.muli v180 c16_i32_115
  let c24_i32_117 : BitVec 32 := 24#32
  let v183 : BitVec 32 := Scalar.muli v181 c24_i32_117
  let c0_i32_123 : BitVec 32 := 0#32
  ![v183.toNat, 0]
def k0_dev10 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_118 : BitVec 32 := 16#32
  let v184 : BitVec 32 := Scalar.xori v2 c16_i32_118
  let c1_i32_121 : BitVec 32 := 1#32
  let v185 : BitVec 32 := Scalar.muli v184 c1_i32_121
  let v186 : BitVec 32 := Scalar.addi c0_i32_122 v185
  v186.toNat
abbrev stage0_0 : Fin 1 → Memref sig .tc .vmem S24x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S1024 : Shape := ⟨1, ![1024]⟩
abbrev S128 : Shape := ⟨1, ![128]⟩
abbrev S1x128 : Shape := ⟨2, ![1, 128]⟩
abbrev S1024x128 : Shape := ⟨2, ![1024, 128]⟩
abbrev S_ : Shape := ⟨0, ![]⟩
abbrev S1024x512x1024 : Shape := ⟨3, ![1024, 512, 1024]⟩
abbrev S1024x1024 : Shape := ⟨2, ![1024, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x1, .i32⟩
  | .hbm, ⟨3, _⟩ => ⟨S128x512x1024, .bf16⟩
  | .hbm, ⟨4, _⟩ => ⟨S1024, .i32⟩
  | .hbm, ⟨5, _⟩ => ⟨S1024x1, .i32⟩
  | .hbm, ⟨6, _⟩ => ⟨S128, .i32⟩
  | .hbm, ⟨7, _⟩ => ⟨S1x128, .i32⟩
  | .hbm, ⟨8, _⟩ => ⟨S1024x128, .i32⟩
  | .hbm, ⟨9, _⟩ => ⟨S1024x128, .i32⟩
  | .hbm, ⟨10, _⟩ => ⟨S1024x128, .i1⟩
  | .hbm, ⟨11, _⟩ => ⟨S1024x128, .i32⟩
  | .hbm, ⟨12, _⟩ => ⟨S_, .i32⟩
  | .hbm, ⟨13, _⟩ => ⟨S_, .i32⟩
  | .hbm, ⟨14, _⟩ => ⟨S1024x128, .i32⟩
  | .hbm, ⟨15, _⟩ => ⟨S_, .i32⟩
  | .hbm, ⟨16, _⟩ => ⟨S1024x128, .i32⟩
  | .hbm, ⟨17, _⟩ => ⟨S1024x128, .i1⟩
  | .hbm, ⟨18, _⟩ => ⟨S_, .i32⟩
  | .hbm, ⟨19, _⟩ => ⟨S1024x128, .i32⟩
  | .hbm, ⟨20, _⟩ => ⟨S1024x128, .i1⟩
  | .hbm, ⟨21, _⟩ => ⟨S1024x128, .i1⟩
  | .hbm, ⟨22, _⟩ => ⟨S_, .i1⟩
  | .hbm, ⟨23, _⟩ => ⟨S1024, .i1⟩
  | .hbm, ⟨24, _⟩ => ⟨S1024x512, .f32⟩
  | .hbm, ⟨25, _⟩ => ⟨S128x512x1024, .f32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S1024x512x1024, .f32⟩
  | .hbm, ⟨35, _⟩ => ⟨S1024x1024, .f32⟩
  | .hbm, ⟨36, _⟩ => ⟨S1024x1, .i1⟩
  | .hbm, ⟨37, _⟩ => ⟨S_, .f32⟩
  | .hbm, ⟨38, _⟩ => ⟨S_, .f32⟩
  | .hbm, ⟨39, _⟩ => ⟨S1024x1024, .i1⟩
  | .hbm, ⟨40, _⟩ => ⟨S1024x1024, .f32⟩
  | .hbm, ⟨41, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.Common.lean ====
/-
  The gathering kernel's protocol, stated over any float values.

  Thirty-two devices each hold 24 rows. Device `c` writes them at its place in a buffer of 768 rows and then, in five
  stages, exchanges with `c xor 2^k` everything it has so far. This module fixes the partner map, the row sets, the
  semaphore cells, what each payment carries, the order in which a device may wait, and what each device owes at the
  start.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.PureOps

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The algebra -/

/-- One component for the pipeline's own copies, one for the exchange, whose payments on a cell are numbered by stage. -/
abbrev UU : Type := URounds (GSem nD τ sig) Unit × URounds (GSem nD τ sig) (Fin 5)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Fin 5)) (MT nD τ sig Unit (Elt F) ℕ UU ℕ) := embR

abbrev 𝒱₀ : Variants := Variants.none

/-! ## Partners and row sets -/

/-- The device `c` exchanges with at stage `k`. -/
def partner (k : Fin 5) (c : Dev nD) : Dev nD :=
  ⟨c.val ^^^ 2 ^ k.val, Nat.xor_lt_two_pow (n := 5) c.isLt (Nat.pow_lt_pow_right (by decide) k.isLt)⟩

theorem partner_partner (k : Fin 5) (c : Dev nD) : partner k (partner k c) = c :=
  Fin.ext (by show (c.val ^^^ 2 ^ k.val) ^^^ 2 ^ k.val = c.val; rw [Nat.xor_assoc, Nat.xor_self, Nat.xor_zero])

/-- The exchange at stage `k`, as a permutation of the devices. -/
def swap (k : Fin 5) : Dev nD ≃ Dev nD := ⟨partner k, partner k, partner_partner k, partner_partner k⟩

/-- Partners at stage `k` lie in the two halves of one group of the next stage. -/
theorem partner_halves : ∀ (k : Fin 5) (c : Dev nD),
    ((partner k c).val / 2 ^ (k.val + 1) = c.val / 2 ^ (k.val + 1))
      ∧ ((c.val / 2 ^ k.val = 2 * (c.val / 2 ^ (k.val + 1)) ∧ (partner k c).val / 2 ^ k.val = 2 * (c.val / 2 ^ (k.val + 1)) + 1)
        ∨ (c.val / 2 ^ k.val = 2 * (c.val / 2 ^ (k.val + 1)) + 1 ∧ (partner k c).val / 2 ^ k.val = 2 * (c.val / 2 ^ (k.val + 1)))) := by
  decide +kernel

/-- The rows from `lo` on, `n` of them, of the gathered buffer. -/
def rows (lo n : ℕ) : Finset S768x1024.Idx := Finset.univ.filter fun i => lo ≤ (i 0).val ∧ (i 0).val < lo + n

theorem mem_rows {lo n : ℕ} {i : S768x1024.Idx} : i ∈ rows lo n ↔ lo ≤ (i 0).val ∧ (i 0).val < lo + n := by
  unfold rows; rw [Finset.mem_filter]; exact and_iff_right (Finset.mem_univ i)

/-- What device `c` holds before stage `k`: the rows of the `2^k` devices of its group. -/
def held (k : ℕ) (c : Dev nD) : Finset S768x1024.Idx := rows (24 * 2 ^ k * (c.val / 2 ^ k)) (24 * 2 ^ k)

theorem held_disjoint (k : Fin 5) (c : Dev nD) : Disjoint (held k c) (held k (partner k c)) := by
  rw [Finset.disjoint_left]
  intro i h₁ h₂
  unfold held at h₁ h₂
  rw [mem_rows] at h₁ h₂
  have h := partner_halves k c
  generalize 24 * 2 ^ k.val = b at h₁ h₂
  rcases h.2 with ⟨e₁, e₂⟩ | ⟨e₁, e₂⟩ <;> rw [e₁] at h₁ <;> rw [e₂] at h₂ <;>
    (rw [Nat.mul_add, Nat.mul_one] at *; omega)

theorem held_union (k : Fin 5) (c : Dev nD) : held k c ∪ held k (partner k c) = held (k.val + 1) c := by
  ext i
  rw [Finset.mem_union]
  unfold held
  rw [mem_rows, mem_rows, mem_rows]
  have h := partner_halves k c
  have hp : 24 * 2 ^ (k.val + 1) = 24 * 2 ^ k.val + 24 * 2 ^ k.val := by rw [Nat.pow_succ]; omega
  have hq : 24 * 2 ^ (k.val + 1) * (c.val / 2 ^ (k.val + 1)) = 24 * 2 ^ k.val * (2 * (c.val / 2 ^ (k.val + 1))) := by
    rw [Nat.pow_succ, ← Nat.mul_assoc 24, Nat.mul_assoc (24 * 2 ^ k.val)]
  rw [hq, hp]
  generalize 24 * 2 ^ k.val = b at *
  rcases h.2 with ⟨e₁, e₂⟩ | ⟨e₁, e₂⟩ <;> rw [e₁, e₂] <;> rw [Nat.mul_add, Nat.mul_one] <;> omega

theorem held_five (c : Dev nD) : held 5 c = Finset.univ := by
  ext i
  unfold held
  rw [mem_rows]
  have h0 : c.val / 2 ^ 5 = 0 := Nat.div_eq_of_lt c.isLt
  have hi : (i 0).val < 768 := (i 0).isLt
  rw [h0]
  exact iff_of_true (by omega) (Finset.mem_univ i)

/-! ## The gathered buffer, its slices, and the cells -/

/-- The two staging buffers. -/
abbrev cM : Memref sig .tc .vmem S24x1024 .bf16 := Memref.whole cc0_stg0_0
abbrev oM : Memref sig .tc .vmem S768x1024 .bf16 := Memref.whole cc0_stg1_0

/-- What one device's 24 rows may hold, and what all 768 may. -/
abbrev Part (F : FTy → Type) : Type := (cc0_stg0_0 : Ref sig .tc).ty.Contents (Elt F)
abbrev Full (F : FTy → Type) : Type := (cc0_stg1_0 : Ref sig .tc).ty.Contents (Elt F)

/-- All devices' rows, one device after another. -/
def gathered (A : Dev nD → Part F) : Full F := fun i =>
  A ⟨(i 0).val / 24, Nat.div_lt_of_lt_mul (i 0).isLt⟩ (fun | 0 => ⟨(i 0).val % 24, Nat.mod_lt _ (by decide)⟩ | 1 => i 1)

/-- Some rows of device `c`'s gathered buffer, at share `q`. -/
abbrev seg (c : Dev nD) (I : Finset S768x1024.Idx) (q : PosShare TreeShare) (f : Full F) : sProp 𝕄 :=
  ((c : Thread nD τ).loc cc0_stg1_0) ↦[I]{q} f

abbrev barS : Sem sig := barrier0
def sendS (k : Fin 5) : DmaSem sig := ⟨2 + k.val, by have := k.isLt; show 2 + k.val < 12; omega⟩
def recvS (k : Fin 5) : DmaSem sig := ⟨7 + k.val, by have := k.isLt; show 7 + k.val < 12; omega⟩

abbrev barCell (c : Dev nD) : GSem nD τ sig := ((c : Thread nD τ), .reg barS)
abbrev sendCell (k : Fin 5) (c : Dev nD) : GSem nD τ sig := ((c : Thread nD τ), .dma (sendS k))
abbrev recvCell (k : Fin 5) (c : Dev nD) : GSem nD τ sig := ((c : Thread nD τ), .dma (recvS k))

/-- The kernel's own semaphores: five for sending, five for receiving. -/
def osem (k : Fin 5 × Bool) : SemLoc sig := if k.2 then .dma (recvS k.1) else .dma (sendS k.1)

theorem osem_inj : Function.Injective osem := by decide +kernel

/-- How much the copy of stage `k` moves, as the semaphores count it. -/
def amt (k : Fin 5) : ℕ :=
  ((oM.view.slice (Rect.unit (s := S768x1024) ![0, 0] ![24 * 2 ^ k.val, 1024] (by
    revert k; decide +kernel))) : View sig .tc _ _ _).dmaCredit

theorem amt_pos (k : Fin 5) : 0 < amt k := View.dmaCredit_pos _ (by revert k; decide +kernel)

/-! ## The schedule -/

/-- The share a device still has before stage `k`: it lends the left half at each stage. -/
def keep : ℕ → PosShare TreeShare
  | 0 => fullShare
  | k + 1 => (keep k).right

variable (A : Dev nD → Part F)

/-- Paid to device `c`'s barrier at stage `k` by its partner: the place in the partner's buffer for `c`'s rows, and that
    the partner's receive cell is open. -/
def barPay (k : Fin 5) (c : Dev nD) : sProp 𝕄 :=
  iprop((∃ f : Full F, seg (partner k c) (held k c) fullShare f) ∗ reached ER (recvCell k (partner k c)) 0)
/-- Paid to device `c`'s receive cell: its partner's rows, gathered. -/
def recvPay (k : Fin 5) (c : Dev nD) : sProp 𝕄 := seg c (held k (partner k c)) fullShare (gathered A)
/-- Paid to device `c`'s send cell: the rows it lent. -/
def sendPay (k : Fin 5) (c : Dev nD) : sProp 𝕄 := seg c (held k c) (keep k).left (gathered A)

/-- The stage of a semaphore number. -/
def stageOf (n : ℕ) : Fin 5 := ⟨(n - 2) % 5, Nat.mod_lt _ (by decide)⟩

/-- Round 0 only: five payments on a barrier cell, one on every send and receive cell. -/
def talk : Rounds.Schedule (GSem nD τ sig) (Fin 5) 𝕄 where
  duties g r :=
    if r = 0 ∧ g.1.2 = .tc then
      (match g.2 with
        | .reg s => if s = barS then Finset.univ else ∅
        | .dma s => if 2 ≤ s.val then {0} else ∅)
    else ∅
  unitless _ := False
  amount g _ _ :=
    match g.2 with
      | .reg _ => 1
      | .dma s => amt (stageOf s.val)
  payload g _ d :=
    match g.2 with
      | .reg _ => barPay d g.1.1
      | .dma s => if s.val < 7 then sendPay A (stageOf s.val) g.1.1 else recvPay A (stageOf s.val) g.1.1
  amount_pos g _ _ _ := by
    rcases g with ⟨_, s | s⟩
    · exact Nat.one_pos
    · exact amt_pos _

instance talk_storable (g : GSem nD τ sig) (r : ℕ) (d : Fin 5) :
    BI.Storable (upEmb : UEmb _ 𝕄) ((talk (F := F) A).payload g r d) := by
  rcases g with ⟨p, s | s⟩
  · show BI.Storable upEmb (barPay d p.1)
    unfold barPay; infer_instance
  · show BI.Storable upEmb (if s.val < 7 then sendPay A (stageOf s.val) p.1 else recvPay A (stageOf s.val) p.1)
    unfold sendPay recvPay
    split <;> infer_instance

section Sched

variable (k : Fin 5) (c : Dev nD)

theorem stage_send : stageOf (sendS k).val = k := by revert k; decide
theorem stage_recv : stageOf (recvS k).val = k := by revert k; decide
theorem send_lt : (sendS k).val < 7 := by revert k; decide
theorem recv_ge : ¬ (recvS k).val < 7 := by revert k; decide

theorem duties_bar : (talk (F := F) A).duties (barCell c) 0 = Finset.univ := by
  show (if 0 = 0 ∧ (c : Thread nD τ).2 = .tc then (if barS = barS then Finset.univ else ∅) else ∅) = _
  rw [if_pos ⟨rfl, rfl⟩, if_pos rfl]
theorem duties_send : (talk (F := F) A).duties (sendCell k c) 0 = {0} := by
  show (if 0 = 0 ∧ (c : Thread nD τ).2 = .tc then (if 2 ≤ (sendS k).val then ({0} : Finset (Fin 5)) else ∅) else ∅) = _
  rw [if_pos ⟨rfl, rfl⟩, if_pos (show 2 ≤ (sendS k).val from Nat.le_add_right 2 _)]
theorem duties_recv : (talk (F := F) A).duties (recvCell k c) 0 = {0} := by
  show (if 0 = 0 ∧ (c : Thread nD τ).2 = .tc then (if 2 ≤ (recvS k).val then ({0} : Finset (Fin 5)) else ∅) else ∅) = _
  rw [if_pos ⟨rfl, rfl⟩, if_pos (show 2 ≤ (recvS k).val from Nat.le_trans (by decide) (Nat.le_add_right 7 _))]
theorem duties_later (g : GSem nD τ sig) : ∀ r, 1 ≤ r → (talk (F := F) A).duties g r = ∅ := fun r hr => by
  show (if r = 0 ∧ _ then _ else ∅) = _
  rw [if_neg (fun h => by omega)]

theorem amount_bar (d : Fin 5) : (talk (F := F) A).amount (barCell c) 0 d = 1 := rfl
theorem amount_send (d : Fin 5) : (talk (F := F) A).amount (sendCell k c) 0 d = amt k := by
  show amt (stageOf (sendS k).val) = _; rw [stage_send]
theorem amount_recv (d : Fin 5) : (talk (F := F) A).amount (recvCell k c) 0 d = amt k := by
  show amt (stageOf (recvS k).val) = _; rw [stage_recv]

theorem expect_bar : (talk (F := F) A).expect (barCell c) 0 = 5 := by
  unfold Schedule.expect Schedule.amountOf; rw [duties_bar]; rfl
theorem expect_send : (talk (F := F) A).expect (sendCell k c) 0 = amt k := by
  unfold Schedule.expect Schedule.amountOf; rw [duties_send, Finset.sum_singleton, amount_send]
theorem expect_recv : (talk (F := F) A).expect (recvCell k c) 0 = amt k := by
  unfold Schedule.expect Schedule.amountOf; rw [duties_recv, Finset.sum_singleton, amount_recv]

theorem payload_bar : (talk (F := F) A).payload (barCell c) 0 k = barPay k c := rfl
theorem payload_send (d : Fin 5) : (talk (F := F) A).payload (sendCell k c) 0 d = sendPay A k c := by
  show (if (sendS k).val < 7 then sendPay A (stageOf (sendS k).val) c else recvPay A (stageOf (sendS k).val) c) = _
  rw [if_pos (send_lt k), stage_send]
theorem payload_recv (d : Fin 5) : (talk (F := F) A).payload (recvCell k c) 0 d = recvPay A k c := by
  show (if (recvS k).val < 7 then sendPay A (stageOf (recvS k).val) c else recvPay A (stageOf (recvS k).val) c) = _
  rw [if_neg (recv_ge k), stage_recv]

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

theorem rest_bar : bigSep ((talk (F := F) A).duties (barCell c) 0 \ ∅) (fun d => (talk (F := F) A).payload (barCell c) 0 d)
    = iprop(barPay 0 c ∗ barPay 1 c ∗ barPay 2 c ∗ barPay 3 c ∗ barPay 4 c) := by
  rw [Finset.sdiff_empty, duties_bar]
  exact bigSep_five _
theorem rest_send : bigSep ((talk (F := F) A).duties (sendCell k c) 0 \ ∅) (fun d => (talk (F := F) A).payload (sendCell k c) 0 d)
    = sendPay A k c := by
  rw [Finset.sdiff_empty, duties_send, bigSep_singleton, payload_send]
theorem rest_recv : bigSep ((talk (F := F) A).duties (recvCell k c) 0 \ ∅) (fun d => (talk (F := F) A).payload (recvCell k c) 0 d)
    = recvPay A k c := by
  rw [Finset.sdiff_empty, duties_recv, bigSep_singleton, payload_recv]

end Sched

/-! ## What each device owes at the start, and the levels -/

/-- The payments a device makes, counted from the last: the copies of stages 4 to 0, before them the units of stages 4 to 0. -/
def payment (c : Dev nD) (n : ℕ) : CellTallies nD τ sig Unit :=
  if n < 5 then tallyAt (recvCell (stageOf (6 - n)) (partner (stageOf (6 - n)) c)) () (amt (stageOf (6 - n)))
  else tallyAt (barCell (partner (stageOf (11 - n)) c)) () 1

/-- What device `c` owes with `n` payments to go. -/
def owing (c : Dev nD) : ℕ → CellTallies nD τ sig Unit
  | 0 => 0
  | n + 1 => owing c n + payment c n

/-- What device `c` owes at the start. -/
def O₀ (c : Dev nD) : CellTallies nD τ sig Unit := owing c 10

def L (g : GSem nD τ sig) : Finset Unit := if g.1.2 = .tc then {()} else ∅

/-- The barrier at 1, the receive cell of stage `k` at `k + 2`, everything else at 0. -/
def lv (g : GSem nD τ sig) (_ : Unit) : ℕ :=
  match g.2 with
    | .reg s => if s = barS then 1 else 0
    | .dma s => s.val - 5

theorem L_of_ne (g : GSem nD τ sig) (h : g.1.2 ≠ .tc) : L g = ∅ := if_neg h
theorem L_tc (c : Dev nD) (sm : SemLoc sig) : L ((c : Thread nD τ), sm) = {()} := if_pos rfl

theorem lv_recv (k : Fin 5) (c : Dev nD) (u : Unit) : lv (recvCell k c) u = k.val + 2 := by
  show (7 + k.val) - 5 = k.val + 2; omega
theorem lv_bar (c : Dev nD) (u : Unit) : lv (barCell c) u = 1 := by
  show (if barS = barS then 1 else 0) = 1; rw [if_pos rfl]

theorem tallyAt_pos {g h : GSem nD τ sig} {n : ℕ} {u : Unit} (hp : 0 < tallyAt g () n h u) : h = g := by
  rw [tallyAt_apply] at hp
  split at hp
  · next e => exact e.1
  · exact absurd hp (Nat.lt_irrefl 0)

/-- With `n` payments to go, every cell owed to is a core's, and lies high enough. -/
theorem owing_pos (c : Dev nD) {g : GSem nD τ sig} {u : Unit} : ∀ n ≤ 10, 0 < owing c n g u →
    (∃ d : Dev nD, ∃ sm, g = ((d : Thread nD τ), sm)) ∧ (if n ≤ 5 then 6 - n < lv g u else 0 < lv g u) := by
  intro n
  induction n with
  | zero => exact fun _ h => absurd h (Nat.lt_irrefl 0)
  | succ n ih =>
    intro hn h
    have h' : 0 < owing c n g u + payment c n g u := h
    rcases Nat.add_pos_iff_pos_or_pos.mp h' with h' | h'
    · refine ⟨(ih (by omega) h').1, ?_⟩
      have := (ih (by omega) h').2
      split at this <;> split <;> omega
    · unfold payment at h'
      split at h'
      · next h5 =>
        have e := tallyAt_pos h'
        refine ⟨⟨_, _, e⟩, ?_⟩
        rw [e, lv_recv, if_pos (by omega)]
        show 6 - (n + 1) < (6 - n - 2) % 5 + 2
        rw [Nat.mod_eq_of_lt (by omega)]; omega
      · next h5 =>
        have e := tallyAt_pos h'
        refine ⟨⟨_, _, e⟩, ?_⟩
        rw [e, lv_bar, if_neg (by omega)]; decide

/-- A device that owes `n ≤ 5` more payments may wait on a cell no higher than `6 - n`. -/
theorem mayWait (c : Dev nD) (sm : SemLoc sig) (n : ℕ) (hn : n ≤ 5) (hs : lv ((c : Thread nD τ), sm) () ≤ 6 - n) :
    (levAts L lv : sProp 𝕄) ⊢ MayWait (c : Thread nD τ) sm () (owing c n) :=
  MayOwe.of_cut (L := L) (lev := lv) (6 - n) (fun p hp => by rw [Finset.mem_singleton.mp hp, L_tc]; exact Finset.mem_singleton_self _)
    (fun g u hg => by
      obtain ⟨⟨d, s, rfl⟩, -⟩ := owing_pos c n (by omega) hg
      rw [L_tc]; exact Finset.mem_singleton_self _)
    (fun p hp => by rw [Finset.mem_singleton.mp hp]; exact hs)
    (fun g u hg => by
      have := (owing_pos c n (by omega) hg).2
      rw [if_pos hn] at this; exact this)

/-! ## The ghost state -/

/-- The invariants device `c` consults: its own barrier; at each stage its own send and receive cells, and its partner's
    barrier and receive cells. -/
def invs (K : GSem nD τ sig → ℕ) (c : Dev nD) : sProp 𝕄 :=
  iprop(cellInv ER (talk A) (K (barCell c)) (barCell c)
    ∗ bigSep Finset.univ fun k : Fin 5 => iprop(cellInv ER (talk A) (K (sendCell k c)) (sendCell k c)
        ∗ cellInv ER (talk A) (K (recvCell k c)) (recvCell k c)
        ∗ cellInv ER (talk A) (K (barCell (partner k c))) (barCell (partner k c))
        ∗ cellInv ER (talk A) (K (recvCell k (partner k c))) (recvCell k (partner k c))
        ∗ reached ER (barCell (partner k c)) 0))

instance invs_persistent (K : GSem nD τ sig → ℕ) (c : Dev nD) : BI.Persistent (invs A K c) := by unfold invs; infer_instance

/-- The tokens of the payments device `c` makes at stage `k`. -/
def stageToks (k : Fin 5) (c : Dev nD) : sProp 𝕄 :=
  iprop(dutyTok ER (barCell (partner k c)) 0 k ∗ dutyTok ER (sendCell k c) 0 0 ∗ dutyTok ER (recvCell k (partner k c)) 0 0)

/-- What device `c` carries from the launch to the kernel. -/
def ghost (K : GSem nD τ sig → ℕ) (c : Dev nD) : sProp 𝕄 :=
  iprop(invs A K c ∗ atPos ER (barCell c) 0 ∅ 0
    ∗ bigSep Finset.univ fun k : Fin 5 => iprop((openTok ER (sendCell k c) ∗ openTok ER (recvCell k c)) ∗ stageToks k c))

/-- The same after its send and receive cells are opened. -/
def opened (K : GSem nD τ sig → ℕ) (c : Dev nD) : sProp 𝕄 :=
  iprop(invs A K c ∗ atPos ER (barCell c) 0 ∅ 0
    ∗ bigSep Finset.univ fun k : Fin 5 => iprop(
        ((atPos ER (sendCell k c) 0 ∅ 0 ∗ reached ER (sendCell k c) 0) ∗ (atPos ER (recvCell k c) 0 ∅ 0 ∗ reached ER (recvCell k c) 0))
        ∗ stageToks k c))

/-- The credit device `c` waits with. -/
def credits (c : Dev nD) : sProp 𝕄 :=
  iprop(cred (tallyAt (barCell c) () 5) ∗ bigSep Finset.univ fun k : Fin 5 => cred (tallyAt (recvCell k c) () (amt k)))

theorem close (κ : ℕ) (g : GSem nD τ sig) :
    iprop(cellInv ER (talk A) κ g ∗ atPos ER g (0 + 1) ∅ 0) ⊢ (|={Set.univ}=> semVal g 0 : sProp 𝕄) :=
  Rounds.cell_close ER (talk A) (Set.mem_univ κ) id (duties_later A g)

end Cert.Proof

end
-- ==== Proof.Geometry.lean ====
/-
  What the kernel's index arithmetic computes, and how its slices and shares fit together.
-/
module

public import proofs.«01_k».proof.Proof.Common
public import Idealize.ShloMosaic.Lib.Pipeline.Value

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices and offsets -/

theorem dev1_eq : ∀ c : Dev nD, (⟨k0_dev1 c, k0_dev1_lt c⟩ : Dev nD) = partner 0 c := by decide +kernel
theorem dev2_eq : ∀ c : Dev nD, (⟨k0_dev2 c, k0_dev2_lt c⟩ : Dev nD) = partner 1 c := by decide +kernel
theorem dev3_eq : ∀ c : Dev nD, (⟨k0_dev3 c, k0_dev3_lt c⟩ : Dev nD) = partner 2 c := by decide +kernel
theorem dev4_eq : ∀ c : Dev nD, (⟨k0_dev4 c, k0_dev4_lt c⟩ : Dev nD) = partner 3 c := by decide +kernel
theorem dev5_eq : ∀ c : Dev nD, (⟨k0_dev5 c, k0_dev5_lt c⟩ : Dev nD) = partner 4 c := by decide +kernel
theorem dev6_eq : ∀ c : Dev nD, (⟨k0_dev6 c, k0_dev6_lt c⟩ : Dev nD) = partner 0 c := by decide +kernel
theorem dev7_eq : ∀ c : Dev nD, (⟨k0_dev7 c, k0_dev7_lt c⟩ : Dev nD) = partner 1 c := by decide +kernel
theorem dev8_eq : ∀ c : Dev nD, (⟨k0_dev8 c, k0_dev8_lt c⟩ : Dev nD) = partner 2 c := by decide +kernel
theorem dev9_eq : ∀ c : Dev nD, (⟨k0_dev9 c, k0_dev9_lt c⟩ : Dev nD) = partner 3 c := by decide +kernel
theorem dev10_eq : ∀ c : Dev nD, (⟨k0_dev10 c, k0_dev10_lt c⟩ : Dev nD) = partner 4 c := by decide +kernel

theorem off1_eq : ∀ c : Dev nD, k0_off1 c = ![24 * 2 ^ 0 * (c.val / 2 ^ 0), 0] := by decide +kernel
theorem off2_eq : ∀ c : Dev nD, k0_off2 c = ![24 * 2 ^ 0 * (c.val / 2 ^ 0), 0] := by decide +kernel
theorem off3_eq : ∀ c : Dev nD, k0_off3 c = ![24 * 2 ^ 1 * (c.val / 2 ^ 1), 0] := by decide +kernel
theorem off4_eq : ∀ c : Dev nD, k0_off4 c = ![24 * 2 ^ 2 * (c.val / 2 ^ 2), 0] := by decide +kernel
theorem off5_eq : ∀ c : Dev nD, k0_off5 c = ![24 * 2 ^ 3 * (c.val / 2 ^ 3), 0] := by decide +kernel
theorem off6_eq : ∀ c : Dev nD, k0_off6 c = ![24 * 2 ^ 4 * (c.val / 2 ^ 4), 0] := by decide +kernel

/-! ## Slices of the gathered buffer -/

/-- The rows a rectangle of whole rows selects. -/
theorem rect_rows {off size : Fin 2 → ℕ} {lo n : ℕ} (inb : ∀ a, off a + size a ≤ S768x1024.size a)
    (ho : off = ![lo, 0]) (hs : size = ![n, 1024]) : (Rect.unit (s := S768x1024) off size inb).set = rows lo n := by
  subst ho hs
  ext i
  rw [Rect.mem_set_unit, mem_rows]
  constructor
  · intro h; exact h 0
  · intro h a
    match a with
    | 0 => exact h
    | 1 =>
      have : (i 1).val < 1024 := (i 1).isLt
      show 0 ≤ (i 1).val ∧ (i 1).val < 0 + 1024
      omega

theorem slice_set (r : Rect S768x1024) (hr : ∀ a, r.stride a = 1) : (oM.slice r hr).view.set = r.set :=
  View.set_slice_whole cc0_stg1_0 r

/-- A slice rewritten with what the same slice of `g` holds agrees with `g` there. -/
theorem slice_write_read (r : Rect S768x1024) (hr : ∀ a, r.stride a = 1) (f g : Full F) :
    ∀ i ∈ (oM.slice r hr).view.set,
      ((oM.slice r hr).view.write (Elt F) f ((oM.slice r hr).view.read (Elt F) g) Finset.univ : Full F) i = g i := fun i hi => by
  rw [View.write_read_eq_piecewise, View.setOn_univ]
  exact Finset.piecewise_eq_of_mem _ _ _ hi

/-- The body's store leaves the device's own rows as gathered. -/
theorem store_own (A : Dev nD → Part F) (c : Dev nD) (inb) (f : Full F) :
    ∀ i ∈ held 0 c, ((oM.access (Rect.unit (s := S768x1024) (k0_off1 c) S24x1024.size inb) : View sig .tc _ _ _).write (Elt F) f
      (k0_pay1 (cM.view.readAt (Elt F) (Rect.unit (s := S24x1024) ![0, 0] S24x1024.size inb_S24x1024_S24x1024_0_0).toLoadRect (A c)))
      Finset.univ : Full F) i = gathered A i := fun i hi => by
  have hr : cM.view.readAt (Elt F) (Rect.unit (s := S24x1024) ![0, 0] S24x1024.size inb_S24x1024_S24x1024_0_0).toLoadRect (A c) = A c :=
    Memref.readAt_unit_zero (Elt F) cc0_stg0_0 (by decide +kernel) _ _
  rw [hr]
  have hp : k0_pay1 (A c) = A c := shapeCast_self _ _
  rw [hp]
  have hm : i ∈ (Rect.unit (s := S768x1024) (k0_off1 c) S24x1024.size inb).set := by
    rw [rect_rows inb (off1_eq c) (n := 24 * 2 ^ 0) (by decide)]; exact hi
  rw [← Rect.map_emb_univ] at hm
  obtain ⟨x, -, rfl⟩ := Finset.mem_map.mp hm
  refine (View.write_emb_of_mem (v := (oM.access (Rect.unit (s := S768x1024) (k0_off1 c) S24x1024.size inb) : View sig .tc _ _ _)) (x := x) f (A c)
    (Finset.mem_univ x)).trans ?_
  have h0 : ((Rect.unit (s := S768x1024) (k0_off1 c) S24x1024.size inb).emb x 0).val = 24 * c.val + (x 0).val := by
    have e : k0_off1 c 0 = 24 * 2 ^ 0 * (c.val / 2 ^ 0) := congrFun (off1_eq c) 0
    rw [Nat.pow_zero, Nat.mul_one, Nat.div_one] at e
    show k0_off1 c 0 + 1 * (x 0).val = _
    omega
  have h1 : ((Rect.unit (s := S768x1024) (k0_off1 c) S24x1024.size inb).emb x 1).val = (x 1).val := by
    have e : k0_off1 c 1 = 0 := congrFun (off1_eq c) 1
    show k0_off1 c 1 + 1 * (x 1).val = _
    omega
  have hx : (x 0).val < 24 := (x 0).isLt
  rw [cast_eq]
  unfold gathered
  have hc : (⟨((Rect.unit (s := S768x1024) (k0_off1 c) S24x1024.size inb).emb x 0).val / 24, Nat.div_lt_of_lt_mul (Fin.isLt _)⟩ : Dev nD) = c :=
    Fin.ext (by show _ / 24 = _; rw [h0]; omega)
  refine (congrArg (A c) ?_).trans (congrFun (congrArg A hc.symm) _)
  funext a
  match a with
  | 0 => exact Fin.ext (by show (x 0).val = _ % 24; rw [h0]; omega)
  | 1 => exact Fin.ext h1.symm

/-! ## Shares -/

omit [FloatOps F] in
/-- A full share lent down to `keep n`, with the way back. -/
theorem lend (c : Dev nD) (I : Finset S768x1024.Idx) (f : Full F) : ∀ n,
    (seg c I fullShare f : sProp 𝕄) ⊢ iprop(seg c I (keep n) f ∗ (seg c I (keep n) f -∗ seg c I fullShare f)) := by
  intro n
  induction n with
  | zero =>
    iintro H
    isplitl [H]; · iexact H
    iintro H; iexact H
  | succ n ih =>
    iintro H
    ihave H := ih $$ H
    icases H with ⟨H, Hb⟩
    ihave H := (pointsTo_share (PosShare.mem_left_op_right (keep n))).1 $$ H
    icases H with ⟨Hl, Hr⟩
    isplitl [Hr]; · iexact Hr
    iintro Hr
    iapply Hb
    iapply (pointsTo_share (PosShare.mem_left_op_right (keep n))).2
    isplitl [Hl]; · iexact Hl
    iexact Hr

/-- The way back for the rows received at stage `k`. -/
def lent (A : Dev nD → Part F) (k : Fin 5) (c : Dev nD) : sProp 𝕄 :=
  iprop(seg c (held k (partner k c)) (keep (k.val + 1)) (gathered A) -∗ seg c (held k (partner k c)) fullShare (gathered A))

variable (A : Dev nD → Part F) (k : Fin 5) (c : Dev nD)

/-- After stage `k`: what is kept, joined with what came. -/
theorem stage_join : iprop(seg c (held k c) (keep (k.val + 1)) (gathered A) ∗ recvPay A k c)
    ⊢ (iprop(seg c (held (k.val + 1) c) (keep (k.val + 1)) (gathered A) ∗ lent A k c) : sProp 𝕄) := by
  unfold recvPay lent
  rw [← held_union k c]
  iintro ⟨Hk, Hv⟩
  ihave Hv := (lend c _ (gathered A) (k.val + 1)) $$ Hv
  icases Hv with ⟨Hv, Hb⟩
  isplitr [Hb]
  · iapply (pointsTo_union (held_disjoint k c)).2
    isplitl [Hk] <;> iassumption
  iexact Hb

/-- The same undone once what was lent is back. -/
theorem stage_back : iprop(seg c (held (k.val + 1) c) (keep (k.val + 1)) (gathered A) ∗ lent A k c ∗ sendPay A k c)
    ⊢ (iprop(seg c (held k c) (keep k) (gathered A) ∗ seg c (held k (partner k c)) fullShare (gathered A)) : sProp 𝕄) := by
  unfold sendPay lent
  rw [← held_union k c]
  iintro ⟨H, Hb, Hl⟩
  ihave H := (pointsTo_union (held_disjoint k c)).1 $$ H
  icases H with ⟨Hk, Hv⟩
  isplitl [Hk Hl]
  · iapply (pointsTo_share (PosShare.mem_left_op_right (keep k.val))).2
    isplitl [Hl]; · iexact Hl
    iexact Hk
  iapply Hb $$ Hv

omit [FloatOps F] in
/-- The whole buffer is the device's own rows and, stage by stage, the places of its partners' rows. -/
theorem whole_split (f : Full F) : (seg c Finset.univ fullShare f : sProp 𝕄)
    ⊣⊢ iprop(seg c (held 0 c) fullShare f ∗ seg c (held 0 (partner 0 c)) fullShare f ∗ seg c (held 1 (partner 1 c)) fullShare f
      ∗ seg c (held 2 (partner 2 c)) fullShare f ∗ seg c (held 3 (partner 3 c)) fullShare f ∗ seg c (held 4 (partner 4 c)) fullShare f) := by
  have step : ∀ j : Fin 5, (seg c (held (j.val + 1) c) fullShare f : sProp 𝕄)
      ⊣⊢ iprop(seg c (held j c) fullShare f ∗ seg c (held j (partner j c)) fullShare f) := fun j => by
    rw [← held_union j c]; exact pointsTo_union (held_disjoint j c)
  have s4 : (seg c (held 5 c) fullShare f : sProp 𝕄) ⊣⊢ iprop(seg c (held 4 c) fullShare f ∗ seg c (held 4 (partner 4 c)) fullShare f) := step 4
  have s3 : (seg c (held 4 c) fullShare f : sProp 𝕄) ⊣⊢ iprop(seg c (held 3 c) fullShare f ∗ seg c (held 3 (partner 3 c)) fullShare f) := step 3
  have s2 : (seg c (held 3 c) fullShare f : sProp 𝕄) ⊣⊢ iprop(seg c (held 2 c) fullShare f ∗ seg c (held 2 (partner 2 c)) fullShare f) := step 2
  have s1 : (seg c (held 2 c) fullShare f : sProp 𝕄) ⊣⊢ iprop(seg c (held 1 c) fullShare f ∗ seg c (held 1 (partner 1 c)) fullShare f) := step 1
  have s0 : (seg c (held 1 c) fullShare f : sProp 𝕄) ⊣⊢ iprop(seg c (held 0 c) fullShare f ∗ seg c (held 0 (partner 0 c)) fullShare f) := step 0
  rw [← held_five c]
  constructor
  · iintro H
    ihave H := s4.1 $$ H
    icases H with ⟨H, H4⟩
    ihave H := s3.1 $$ H
    icases H with ⟨H, H3⟩
    ihave H := s2.1 $$ H
    icases H with ⟨H, H2⟩
    ihave H := s1.1 $$ H
    icases H with ⟨H, H1⟩
    ihave H := s0.1 $$ H
    icases H with ⟨H, H0⟩
    isplitl [H]; · iexact H
    isplitl [H0]; · iexact H0
    isplitl [H1]; · iexact H1
    isplitl [H2]; · iexact H2
    isplitl [H3]; · iexact H3
    iexact H4
  · iintro ⟨H, H0, H1, H2, H3, H4⟩
    iapply s4.2
    isplitr [H4]; rotate_left; · iexact H4
    iapply s3.2
    isplitr [H3]; rotate_left; · iexact H3
    iapply s2.2
    isplitr [H2]; rotate_left; · iexact H2
    iapply s1.2
    isplitr [H1]; rotate_left; · iexact H1
    iapply s0.2
    isplitl [H]; · iexact H
    iexact H0

end Cert.Proof

end
-- ==== Proof.Body.lean ====
/-
  The kernel's body, run once for every device, over any float values.

  Device `c` signals its five partners, handing each the place in its buffer for the partner's rows. It waits for five
  signals, which bring the places in its partners' buffers. It stores its own rows. At stage `k` it sends everything it
  has to its partner and waits for what the partner sends. At the end it waits for its five sends.
-/
module

public import proofs.«01_k».proof.Proof.Geometry

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (A : Dev nD → Part F) (K : GSem nD τ sig → ℕ) (k : Fin 5) (c : Dev nD)

/-! ## One step of each kind -/

/-- The signal to the stage `k` partner `n` (`m + 1` payments to go, this the next). -/
theorem wp_tell (n : Dev nD) (hn : n = partner k c) (m : ℕ) (hm : payment c m = tallyAt (barCell (partner k c)) () 1)
    {α : Type} {Q : α → sProp 𝕄} {next : PUnit → Prog (TpuEff nD τ sig (Elt F) Λ₀ .tc) α} (f : Full F) (W : Waits sig Unit) :
    iprop(cellInv ER (talk A) (K (barCell (partner k c))) (barCell (partner k c)) ∗ owes (c : Thread nD τ) (owing c (m + 1)) W
        ∗ dutyTok ER (barCell (partner k c)) 0 k ∗ seg c (held k (partner k c)) fullShare f
        ∗ reached ER (recvCell k c) 0 ∗ reached ER (barCell (partner k c)) 0)
      ⊢ iprop((owes (c : Thread nD τ) (owing c m) W -∗ wp frame (wpE (defs₀ (F := F)) 𝒱₀ (c : Thread nD τ) none) Set.univ (next ⟨⟩) Q)
          -∗ wp frame (wpE (defs₀ (F := F)) 𝒱₀ (c : Thread nD τ) none) Set.univ (.op (.semSignal (n : Thread nD τ) barS 1) next) Q) := by
  subst hn
  iintro ⟨#HI, HO, Ht, Hs, #Hr, #Hb⟩ Hk
  iapply (Rounds.wp_signal 𝒱₀ ER (talk A) (c : Thread nD τ) none (dst := (partner k c : Thread nD τ)) (sem := barS) (r := 0) (d := k)
      (κ := K (barCell (partner k c))) (by rw [duties_bar]; exact Finset.mem_univ k) (amount_bar A (partner k c) k) () (owing c m)
      (by rw [← hm])) $$ [HO Ht Hs]
  · isplitr; · iexact HI
    isplitl [HO]; · iexact HO
    isplitl [Ht]; · iexact Ht
    isplitl [Hs]
    · rw [payload_bar]; unfold barPay; rw [partner_partner]
      isplitl [Hs]; · iexists f; iexact Hs
      iexact Hr
    · iexact Hb
  iexact Hk

/-- The copy of stage `k` to the partner `n`. -/
theorem wp_give (n : Dev nD) (hn : n = partner k c) (r : Rect S768x1024) (hr : ∀ a, r.stride a = 1) (hset : r.set = held k c)
    (hamt : (oM.slice r hr).view.dmaCredit = amt k) (m : ℕ) (hm : payment c m = tallyAt (recvCell k (partner k c)) () (amt k))
    {sS sV : DmaSem sig} (hS : sS = sendS k) (hV : sV = recvS k)
    {hsc : (oM.slice r hr : Memref sig (Dev.tc n : Thread nD τ).2.kind .vmem r.shape .bf16).view.ref.isScScratch = false}
    {hsrc : (oM.slice r hr).view.WordExact} {hdst : (oM.slice r hr : Memref sig (Dev.tc n : Thread nD τ).2.kind .vmem r.shape .bf16).view.WordExact}
    {hsem : DmaTarget.Typed .vmem (.dma sV) (.remote (Dev.tc n : Thread nD τ) (oM.slice r hr) (.dma sS) hsc)}
    {α : Type} {Q : α → sProp 𝕄} {next : PUnit → Prog (TpuEff nD τ sig (Elt F) Λ₀ .tc) α} (W : Waits sig Unit) :
    iprop(cellInv ER (talk A) (K (sendCell k c)) (sendCell k c) ∗ cellInv ER (talk A) (K (recvCell k (partner k c))) (recvCell k (partner k c))
        ∗ seg c (held k c) (keep k) (gathered A) ∗ barPay k c ∗ owes (c : Thread nD τ) (owing c (m + 1)) W
        ∗ dutyTok ER (sendCell k c) 0 0 ∗ reached ER (sendCell k c) 0 ∗ dutyTok ER (recvCell k (partner k c)) 0 0)
      ⊢ iprop(((cred (tallyAt (sendCell k c) () (amt k)) ∗ seg c (held k c) (keep (k.val + 1)) (gathered A) ∗ owes (c : Thread nD τ) (owing c m) W)
            -∗ wp frame (wpE (defs₀ (F := F)) 𝒱₀ (c : Thread nD τ) none) Set.univ (next ⟨⟩) Q)
          -∗ wp frame (wpE (defs₀ (F := F)) 𝒱₀ (c : Thread nD τ) none) Set.univ
              (.op (.enqueueDma (oM.slice r hr) (.remote (Dev.tc n : Thread nD τ) (oM.slice r hr) (.dma sS) hsc) (.dma sV) hsrc hdst hsem) next) Q) := by
  subst hn hS hV
  have hset' : (oM.slice r hr).view.set = held k c := (slice_set r hr).trans hset
  unfold barPay
  iintro ⟨#HI, #HJ, Hs, ⟨⟨%f, Hd⟩, #HrV⟩, HO, HtS, #HrS, HtV⟩ Hk
  ihave Hs := (pointsTo_share (PosShare.mem_left_op_right (keep k.val))).1 $$ Hs
  icases Hs with ⟨Hl, Hs⟩
  iapply (Rounds.wp_send_pointsTo 𝒱₀ ER (talk A) (c : Thread nD τ) none (c' := (partner k c : Thread nD τ)) (src := oM.slice r hr) (dst := oM.slice r hr)
      (sS := .dma (sendS k)) (sem := .dma (recvS k)) (q := (keep k.val).left) (fs := gathered A) (κ₁ := K (sendCell k c)) (κ₂ := K (recvCell k (partner k c)))
      (r₁ := 0) (r₂ := 0) (d₁ := 0) (d₂ := 0) (fd := f)
      (by rw [duties_send]; exact Finset.mem_singleton_self _) (by rw [duties_recv]; exact Finset.mem_singleton_self _)
      () () (amt k) hamt (amount_send A k c 0) (amount_recv A k (partner k c) 0) (owing c m) (by rw [← hm]) (W := W)
      (by rw [payload_send, hset']; unfold sendPay; exact BI.Entails.refl _)
      (by
        rw [payload_recv, pointsTo_congr (slice_write_read r hr f (gathered A)), hset']
        unfold recvPay; rw [partner_partner])) $$ [Hl Hd HO HtS HtV]
  · isplitr; · iexact HI
    isplitr; · iexact HJ
    isplitl [Hl]; · rw [hset']; iexact Hl
    isplitl [Hd]; · rw [hset']; iexact Hd
    isplitl [HO]; · iexact HO
    isplitl [HtS]; · iexact HtS
    isplitr; · iexact HrS
    isplitl [HtV]; · iexact HtV
    iexact HrV
  iintro ⟨Hc, HO⟩
  iapply Hk
  isplitl [Hc]; · iexact Hc
  isplitl [Hs]; · iexact Hs
  iexact HO

/-- The wait for what the partner sends at stage `k`, with `m` payments to go; what came is joined to what is kept. -/
theorem wp_take (r : Rect S768x1024) (hr : ∀ a, r.stride a = 1)
    (hamt : (oM.slice r hr).view.dmaCredit = amt k) (m : ℕ) (hm : m = 4 - k.val) {sV : DmaSem sig} (hV : sV = recvS k)
    {hsrc : (oM.slice r hr).view.WordExact} {hdst : (oM.slice r hr).view.WordExact}
    {α : Type} {Q : α → sProp 𝕄} {next : PUnit → Prog (TpuEff nD τ sig (Elt F) Λ₀ .tc) α} (W : Waits sig Unit) :
    iprop(cellInv ER (talk A) (K (recvCell k c)) (recvCell k c) ∗ cred (tallyAt (recvCell k c) () (amt k)) ∗ owes (c : Thread nD τ) (owing c m) W
        ∗ levAts L lv ∗ atPos ER (recvCell k c) 0 ∅ 0 ∗ seg c (held k c) (keep (k.val + 1)) (gathered A))
      ⊢ iprop(((owes (c : Thread nD τ) (owing c m) (insert (SemLoc.dma (recvS k), ()) W) ∗ atPos ER (recvCell k c) (0 + 1) ∅ 0
              ∗ seg c (held (k.val + 1) c) (keep (k.val + 1)) (gathered A) ∗ lent A k c)
            -∗ wp frame (wpE (defs₀ (F := F)) 𝒱₀ (c : Thread nD τ) none) Set.univ (next ⟨⟩) Q)
          -∗ wp frame (wpE (defs₀ (F := F)) 𝒱₀ (c : Thread nD τ) none) Set.univ
              (.op (.waitDma2 sV (oM.slice r hr) (oM.slice r hr) hsrc hdst) next) Q) := by
  subst hV
  iintro ⟨#HI, Hc, HO, #Hlev, Hat, Hs⟩ Hk
  iapply (Rounds.wp_wait_rest_token 𝒱₀ ER (talk A) (c : Thread nD τ) none (κ := K (recvCell k c)) (k' := amt k)
      (fun Kt => (wpE_waitDma2_eq 𝒱₀ (c : Thread nD τ) none Set.univ Kt).trans (by rw [hamt])) (Set.mem_univ _) () (O := owing c m) (W := W) (R := 0) (m := 0) (T := ∅)
      ((Nat.zero_add _).trans (expect_recv A k c).symm)) $$ [Hc HO Hat]
  · isplitr; · iexact HI
    isplitl [Hc]; · iexact Hc
    isplitl [HO]; · iexact HO
    isplitr
    · iapply (mayWait c (.dma (recvS k)) m (by omega) (by rw [lv_recv, hm]; have := k.isLt; omega)); iexact Hlev
    iexact Hat
  iintro ⟨HO, Hat, -, Hpay⟩
  ihave Hp := (Entails.of_eq (rest_recv A k c)) $$ Hpay
  ihave Hj := (stage_join A k c) $$ [Hs Hp]
  · isplitl [Hs]; · iexact Hs
    iexact Hp
  icases Hj with ⟨Hs, Hl⟩
  iapply Hk
  isplitl [HO]; · iexact HO
  isplitl [Hat]; · iexact Hat
  isplitl [Hs]; · iexact Hs
  iexact Hl

/-- The wait for the send of stage `k`, nothing owed: the rows lent come back. -/
theorem wp_regain (r : Rect S768x1024) (hr : ∀ a, r.stride a = 1)
    (hamt : (oM.slice r hr).view.dmaCredit = amt k) {sS : DmaSem sig} (hS : sS = sendS k)
    {hsrc : (oM.slice r hr).view.WordExact} {hdst : (oM.slice r hr).view.WordExact}
    {α : Type} {Q : α → sProp 𝕄} {next : PUnit → Prog (TpuEff nD τ sig (Elt F) Λ₀ .tc) α} (W : Waits sig Unit) :
    iprop(cellInv ER (talk A) (K (sendCell k c)) (sendCell k c) ∗ cred (tallyAt (sendCell k c) () (amt k)) ∗ owes (c : Thread nD τ) (owing c 0) W
        ∗ atPos ER (sendCell k c) 0 ∅ 0)
      ⊢ iprop(((owes (c : Thread nD τ) (owing c 0) (insert (SemLoc.dma (sendS k), ()) W) ∗ atPos ER (sendCell k c) (0 + 1) ∅ 0 ∗ sendPay A k c)
            -∗ wp frame (wpE (defs₀ (F := F)) 𝒱₀ (c : Thread nD τ) none) Set.univ (next ⟨⟩) Q)
          -∗ wp frame (wpE (defs₀ (F := F)) 𝒱₀ (c : Thread nD τ) none) Set.univ
              (.op (.waitDma2 sS (oM.slice r hr) (oM.slice r hr) hsrc hdst) next) Q) := by
  subst hS
  iintro ⟨#HI, Hc, HO, Hat⟩ Hk
  iapply (Rounds.wp_wait_rest_token 𝒱₀ ER (talk A) (c : Thread nD τ) none (κ := K (sendCell k c)) (k' := amt k)
      (fun Kt => (wpE_waitDma2_eq 𝒱₀ (c : Thread nD τ) none Set.univ Kt).trans (by rw [hamt])) (Set.mem_univ _) () (O := owing c 0) (W := W) (R := 0) (m := 0) (T := ∅)
      ((Nat.zero_add _).trans (expect_send A k c).symm)) $$ [Hc HO Hat]
  · isplitr; · iexact HI
    isplitl [Hc]; · iexact Hc
    isplitl [HO]; · iexact HO
    isplitr; · rw [show owing c 0 = 0 from rfl, MayWait_zero]; iempintro
    iexact Hat
  iintro ⟨HO, Hat, -, Hpay⟩
  ihave Hp := (Entails.of_eq (rest_send A k c)) $$ Hpay
  iapply Hk
  isplitl [HO]; · iexact HO
  isplitl [Hat]; · iexact Hat
  iexact Hp

/-- The store's rows are the device's own. -/
theorem own_sub (inb) : ((oM.access (Rect.unit (s := S768x1024) (k0_off1 c) S24x1024.size inb) : View sig .tc _ _ _).setOn Finset.univ) ⊆ held 0 c := by
  rw [View.setOn_univ]
  exact Finset.subset_of_eq ((slice_set _ (fun _ => rfl)).trans (rect_rows inb (off1_eq c) (by decide)))

theorem own_read (inb) : (oM.view.setOn (Rect.unit (s := S768x1024) (k0_off1 c) S24x1024.size inb).set) ⊆ held 0 c := by
  rw [show oM.view.setOn (Rect.unit (s := S768x1024) (k0_off1 c) S24x1024.size inb).set
    = (oM.access (Rect.unit (s := S768x1024) (k0_off1 c) S24x1024.size inb) : View sig .tc _ _ _).set from (View.set_slice _ _).symm]
  exact own_sub c inb

/-! ## The body's parts -/

/-- What stage `k` starts from, with `m + 1` payments to go. -/
def stagePre (m : ℕ) (W : Waits sig Unit) : sProp 𝕄 :=
  iprop((cellInv ER (talk A) (K (sendCell k c)) (sendCell k c) ∗ cellInv ER (talk A) (K (recvCell k c)) (recvCell k c)
      ∗ cellInv ER (talk A) (K (recvCell k (partner k c))) (recvCell k (partner k c)) ∗ reached ER (sendCell k c) 0 ∗ levAts L lv)
    ∗ seg c (held k c) (keep k) (gathered A) ∗ barPay k c ∗ owes (c : Thread nD τ) (owing c (m + 1)) W
    ∗ dutyTok ER (sendCell k c) 0 0 ∗ dutyTok ER (recvCell k (partner k c)) 0 0
    ∗ cred (tallyAt (recvCell k c) () (amt k)) ∗ atPos ER (recvCell k c) 0 ∅ 0)

/-- What it ends with. -/
def stagePost (m : ℕ) (W : Waits sig Unit) : sProp 𝕄 :=
  iprop(cred (tallyAt (sendCell k c) () (amt k)) ∗ owes (c : Thread nD τ) (owing c m) (insert (SemLoc.dma (recvS k), ()) W)
    ∗ atPos ER (recvCell k c) (0 + 1) ∅ 0 ∗ seg c (held (k.val + 1) c) (keep (k.val + 1)) (gathered A) ∗ lent A k c)

theorem credit0 {off : Fin 2 → ℕ} (inb) : (oM.slice (Rect.unit (s := S768x1024) off S24x1024.size inb) (fun _ => rfl)).view.dmaCredit = amt 0 := rfl

theorem stage0 (v : BitVec 32) (W : Waits sig Unit) (Kt : PUnit → sProp 𝕄) :
    iprop(stagePre A K 0 c 4 W ∗ (stagePost A 0 c 4 W -∗ Kt ⟨⟩))
      ⊢ wp frame (wpE (defs₀ (F := F)) 𝒱₀ c none) Set.univ
          (k0_part2_skel (Memref.whole cc0_stg0_0) (Memref.isWhole_whole _) (Memref.whole cc0_stg1_0) (Memref.isWhole_whole _) cc0_scratch0 cc0_scratch1 c v) Kt := by
  unfold k0_part2_skel
  simp only [Prog.lift, Prog.bind_op, Prog.bind_ret, Prog.pure_eq_ret]
  unfold stagePre
  iintro ⟨⟨⟨#Is, #Iv, #Jv, #Rs, #Hlev⟩, Ho, P, HO, Ts, Tv, Cv, Av⟩, Hk⟩
  iapply (wp_give A K 0 c _ (dev6_eq c) (Rect.unit (s := S768x1024) (k0_off2 c) S24x1024.size (k0_off2_inb c)) (fun _ => rfl)
      (rect_rows _ (off2_eq c) (by decide)) (credit0 _) 4 rfl (sS := _) (sV := _) rfl rfl W) $$ [Ho P HO Ts Tv]
  · isplitr; · iexact Is
    isplitr; · iexact Jv
    isplitl [Ho]; · iexact Ho
    isplitl [P]; · iexact P
    isplitl [HO]; · iexact HO
    isplitl [Ts]; · iexact Ts
    isplitr; · iexact Rs
    iexact Tv
  iintro ⟨Cs, Ho, HO⟩
  iapply (wp_take A K 0 c (Rect.unit (s := S768x1024) (k0_off2 c) S24x1024.size (k0_off2_inb c)) (fun _ => rfl)
      (credit0 _) 4 rfl (sV := _) rfl W) $$ [Cv HO Av Ho]
  · isplitr; · iexact Iv
    isplitl [Cv]; · iexact Cv
    isplitl [HO]; · iexact HO
    isplitr; · iexact Hlev
    isplitl [Av]; · iexact Av
    iexact Ho
  iintro ⟨HO, Av, Ho, B⟩
  rw [wp_ret]; imodintro
  iapply Hk
  unfold stagePost
  isplitl [Cs]; · iexact Cs
  isplitl [HO]; · iexact HO
  isplitl [Av]; · iexact Av
  isplitl [Ho]; · iexact Ho
  iexact B

theorem credit1 {off : Fin 2 → ℕ} (inb) : (oM.slice (Rect.unit (s := S768x1024) off S48x1024.size inb) (fun _ => rfl)).view.dmaCredit = amt 1 := rfl

theorem stage1 (v : BitVec 32) (W : Waits sig Unit) (Kt : PUnit → sProp 𝕄) :
    iprop(stagePre A K 1 c 3 W ∗ (stagePost A 1 c 3 W -∗ Kt ⟨⟩))
      ⊢ wp frame (wpE (defs₀ (F := F)) 𝒱₀ c none) Set.univ
          (k0_part3_skel (Memref.whole cc0_stg0_0) (Memref.isWhole_whole _) (Memref.whole cc0_stg1_0) (Memref.isWhole_whole _) cc0_scratch0 cc0_scratch1 c v) Kt := by
  unfold k0_part3_skel
  simp only [Prog.lift, Prog.bind_op, Prog.bind_ret, Prog.pure_eq_ret]
  unfold stagePre
  iintro ⟨⟨⟨#Is, #Iv, #Jv, #Rs, #Hlev⟩, Ho, P, HO, Ts, Tv, Cv, Av⟩, Hk⟩
  iapply (wp_give A K 1 c _ (dev7_eq c) (Rect.unit (s := S768x1024) (k0_off3 c) S48x1024.size (k0_off3_inb c)) (fun _ => rfl)
      (rect_rows _ (off3_eq c) (by decide)) (credit1 _) 3 rfl (sS := _) (sV := _) rfl rfl W) $$ [Ho P HO Ts Tv]
  · isplitr; · iexact Is
    isplitr; · iexact Jv
    isplitl [Ho]; · iexact Ho
    isplitl [P]; · iexact P
    isplitl [HO]; · iexact HO
    isplitl [Ts]; · iexact Ts
    isplitr; · iexact Rs
    iexact Tv
  iintro ⟨Cs, Ho, HO⟩
  iapply (wp_take A K 1 c (Rect.unit (s := S768x1024) (k0_off3 c) S48x1024.size (k0_off3_inb c)) (fun _ => rfl)
      (credit1 _) 3 rfl (sV := _) rfl W) $$ [Cv HO Av Ho]
  · isplitr; · iexact Iv
    isplitl [Cv]; · iexact Cv
    isplitl [HO]; · iexact HO
    isplitr; · iexact Hlev
    isplitl [Av]; · iexact Av
    iexact Ho
  iintro ⟨HO, Av, Ho, B⟩
  rw [wp_ret]; imodintro
  iapply Hk
  unfold stagePost
  isplitl [Cs]; · iexact Cs
  isplitl [HO]; · iexact HO
  isplitl [Av]; · iexact Av
  isplitl [Ho]; · iexact Ho
  iexact B

theorem credit2 {off : Fin 2 → ℕ} (inb) : (oM.slice (Rect.unit (s := S768x1024) off S96x1024.size inb) (fun _ => rfl)).view.dmaCredit = amt 2 := rfl

theorem stage2 (v : BitVec 32) (W : Waits sig Unit) (Kt : PUnit → sProp 𝕄) :
    iprop(stagePre A K 2 c 2 W ∗ (stagePost A 2 c 2 W -∗ Kt ⟨⟩))
      ⊢ wp frame (wpE (defs₀ (F := F)) 𝒱₀ c none) Set.univ
          (k0_part4_skel (Memref.whole cc0_stg0_0) (Memref.isWhole_whole _) (Memref.whole cc0_stg1_0) (Memref.isWhole_whole _) cc0_scratch0 cc0_scratch1 c v) Kt := by
  unfold k0_part4_skel
  simp only [Prog.lift, Prog.bind_op, Prog.bind_ret, Prog.pure_eq_ret]
  unfold stagePre
  iintro ⟨⟨⟨#Is, #Iv, #Jv, #Rs, #Hlev⟩, Ho, P, HO, Ts, Tv, Cv, Av⟩, Hk⟩
  iapply (wp_give A K 2 c _ (dev8_eq c) (Rect.unit (s := S768x1024) (k0_off4 c) S96x1024.size (k0_off4_inb c)) (fun _ => rfl)
      (rect_rows _ (off4_eq c) (by decide)) (credit2 _) 2 rfl (sS := _) (sV := _) rfl rfl W) $$ [Ho P HO Ts Tv]
  · isplitr; · iexact Is
    isplitr; · iexact Jv
    isplitl [Ho]; · iexact Ho
    isplitl [P]; · iexact P
    isplitl [HO]; · iexact HO
    isplitl [Ts]; · iexact Ts
    isplitr; · iexact Rs
    iexact Tv
  iintro ⟨Cs, Ho, HO⟩
  iapply (wp_take A K 2 c (Rect.unit (s := S768x1024) (k0_off4 c) S96x1024.size (k0_off4_inb c)) (fun _ => rfl)
      (credit2 _) 2 rfl (sV := _) rfl W) $$ [Cv HO Av Ho]
  · isplitr; · iexact Iv
    isplitl [Cv]; · iexact Cv
    isplitl [HO]; · iexact HO
    isplitr; · iexact Hlev
    isplitl [Av]; · iexact Av
    iexact Ho
  iintro ⟨HO, Av, Ho, B⟩
  rw [wp_ret]; imodintro
  iapply Hk
  unfold stagePost
  isplitl [Cs]; · iexact Cs
  isplitl [HO]; · iexact HO
  isplitl [Av]; · iexact Av
  isplitl [Ho]; · iexact Ho
  iexact B

theorem credit3 {off : Fin 2 → ℕ} (inb) : (oM.slice (Rect.unit (s := S768x1024) off S192x1024.size inb) (fun _ => rfl)).view.dmaCredit = amt 3 := rfl

theorem stage3 (v : BitVec 32) (W : Waits sig Unit) (Kt : PUnit → sProp 𝕄) :
    iprop(stagePre A K 3 c 1 W ∗ (stagePost A 3 c 1 W -∗ Kt ⟨⟩))
      ⊢ wp frame (wpE (defs₀ (F := F)) 𝒱₀ c none) Set.univ
          (k0_part5_skel (Memref.whole cc0_stg0_0) (Memref.isWhole_whole _) (Memref.whole cc0_stg1_0) (Memref.isWhole_whole _) cc0_scratch0 cc0_scratch1 c v) Kt := by
  unfold k0_part5_skel
  simp only [Prog.lift, Prog.bind_op, Prog.bind_ret, Prog.pure_eq_ret]
  unfold stagePre
  iintro ⟨⟨⟨#Is, #Iv, #Jv, #Rs, #Hlev⟩, Ho, P, HO, Ts, Tv, Cv, Av⟩, Hk⟩
  iapply (wp_give A K 3 c _ (dev9_eq c) (Rect.unit (s := S768x1024) (k0_off5 c) S192x1024.size (k0_off5_inb c)) (fun _ => rfl)
      (rect_rows _ (off5_eq c) (by decide)) (credit3 _) 1 rfl (sS := _) (sV := _) rfl rfl W) $$ [Ho P HO Ts Tv]
  · isplitr; · iexact Is
    isplitr; · iexact Jv
    isplitl [Ho]; · iexact Ho
    isplitl [P]; · iexact P
    isplitl [HO]; · iexact HO
    isplitl [Ts]; · iexact Ts
    isplitr; · iexact Rs
    iexact Tv
  iintro ⟨Cs, Ho, HO⟩
  iapply (wp_take A K 3 c (Rect.unit (s := S768x1024) (k0_off5 c) S192x1024.size (k0_off5_inb c)) (fun _ => rfl)
      (credit3 _) 1 rfl (sV := _) rfl W) $$ [Cv HO Av Ho]
  · isplitr; · iexact Iv
    isplitl [Cv]; · iexact Cv
    isplitl [HO]; · iexact HO
    isplitr; · iexact Hlev
    isplitl [Av]; · iexact Av
    iexact Ho
  iintro ⟨HO, Av, Ho, B⟩
  rw [wp_ret]; imodintro
  iapply Hk
  unfold stagePost
  isplitl [Cs]; · iexact Cs
  isplitl [HO]; · iexact HO
  isplitl [Av]; · iexact Av
  isplitl [Ho]; · iexact Ho
  iexact B

theorem credit4 {off : Fin 2 → ℕ} (inb) : (oM.slice (Rect.unit (s := S768x1024) off S384x1024.size inb) (fun _ => rfl)).view.dmaCredit = amt 4 := rfl

theorem stage4 (v : BitVec 32) (W : Waits sig Unit) (Kt : PUnit → sProp 𝕄) :
    iprop(stagePre A K 4 c 0 W ∗ (stagePost A 4 c 0 W -∗ Kt ⟨⟩))
      ⊢ wp frame (wpE (defs₀ (F := F)) 𝒱₀ c none) Set.univ
          (k0_part6_skel (Memref.whole cc0_stg0_0) (Memref.isWhole_whole _) (Memref.whole cc0_stg1_0) (Memref.isWhole_whole _) cc0_scratch0 cc0_scratch1 c v) Kt := by
  unfold k0_part6_skel
  simp only [Prog.lift, Prog.bind_op, Prog.bind_ret, Prog.pure_eq_ret]
  unfold stagePre
  iintro ⟨⟨⟨#Is, #Iv, #Jv, #Rs, #Hlev⟩, Ho, P, HO, Ts, Tv, Cv, Av⟩, Hk⟩
  iapply (wp_give A K 4 c _ (dev10_eq c) (Rect.unit (s := S768x1024) (k0_off6 c) S384x1024.size (k0_off6_inb c)) (fun _ => rfl)
      (rect_rows _ (off6_eq c) (by decide)) (credit4 _) 0 rfl (sS := _) (sV := _) rfl rfl W) $$ [Ho P HO Ts Tv]
  · isplitr; · iexact Is
    isplitr; · iexact Jv
    isplitl [Ho]; · iexact Ho
    isplitl [P]; · iexact P
    isplitl [HO]; · iexact HO
    isplitl [Ts]; · iexact Ts
    isplitr; · iexact Rs
    iexact Tv
  iintro ⟨Cs, Ho, HO⟩
  iapply (wp_take A K 4 c (Rect.unit (s := S768x1024) (k0_off6 c) S384x1024.size (k0_off6_inb c)) (fun _ => rfl)
      (credit4 _) 0 rfl (sV := _) rfl W) $$ [Cv HO Av Ho]
  · isplitr; · iexact Iv
    isplitl [Cv]; · iexact Cv
    isplitl [HO]; · iexact HO
    isplitr; · iexact Hlev
    isplitl [Av]; · iexact Av
    iexact Ho
  iintro ⟨HO, Av, Ho, B⟩
  rw [wp_ret]; imodintro
  iapply Hk
  unfold stagePost
  isplitl [Cs]; · iexact Cs
  isplitl [HO]; · iexact HO
  isplitl [Av]; · iexact Av
  isplitl [Ho]; · iexact Ho
  iexact B

/-! ## The signals, the wait for the partners, and the own rows -/

/-- The staged rows of the device. -/
abbrev cPts (f : Part F) : sProp 𝕄 := ((c : Thread nD τ).loc cc0_stg0_0) ↦{fullShare} f

/-- What the first part starts from. -/
def openPre (W : Waits sig Unit) : sProp 𝕄 :=
  iprop((cellInv ER (talk A) (K (barCell c)) (barCell c) ∗ levAts L lv
      ∗ bigSep Finset.univ fun k : Fin 5 => iprop(cellInv ER (talk A) (K (barCell (partner k c))) (barCell (partner k c))
          ∗ reached ER (barCell (partner k c)) 0 ∗ reached ER (recvCell k c) 0))
    ∗ atPos ER (barCell c) 0 ∅ 0 ∗ (bigSep Finset.univ fun k : Fin 5 => dutyTok ER (barCell (partner k c)) 0 k)
    ∗ cred (tallyAt (barCell c) () 5) ∗ cPts c (A c) ∗ (∃ f : Full F, seg c Finset.univ fullShare f) ∗ owes (c : Thread nD τ) (O₀ c) W)

/-- What it ends with. -/
def openPost (W : Waits sig Unit) : sProp 𝕄 :=
  iprop(atPos ER (barCell c) (0 + 1) ∅ 0 ∗ (bigSep Finset.univ fun k : Fin 5 => barPay k c) ∗ cPts c (A c)
    ∗ seg c (held 0 c) fullShare (gathered A) ∗ owes (c : Thread nD τ) (owing c 5) (insert (SemLoc.reg barS, ()) W))

set_option maxHeartbeats 800000 in
theorem opening (W : Waits sig Unit) (Kt : (Σ' (_ : Dev nD), BitVec 32) → sProp 𝕄) :
    iprop(openPre A K c W ∗ (∀ v, openPost A c W -∗ Kt ⟨c, v⟩))
      ⊢ wp frame (wpE (defs₀ (F := F)) 𝒱₀ c none) Set.univ (k0_part1_skel (Memref.whole cc0_stg0_0) (Memref.isWhole_whole _) (Memref.whole cc0_stg1_0) (Memref.isWhole_whole _) cc0_scratch0 cc0_scratch1) Kt := by
  unfold k0_part1_skel
  simp only [semSignalWord, semWaitWord, Prog.lift, Prog.bind_op, Prog.bind_ret, Prog.pure_eq_ret, wp_deviceId]
  unfold openPre
  simp only [bigSep_five]
  iintro ⟨⟨⟨#HIb, #Hlev, ⟨#Jb0, #Rb0, #Rv0⟩, ⟨#Jb1, #Rb1, #Rv1⟩, ⟨#Jb2, #Rb2, #Rv2⟩, ⟨#Jb3, #Rb3, #Rv3⟩, ⟨#Jb4, #Rb4, #Rv4⟩⟩, HatB,
    ⟨Tb0, Tb1, Tb2, Tb3, Tb4⟩, HcB, Hx, ⟨%f, Ho⟩, HO⟩, Hk⟩
  -- the buffer, cut into the own rows and the places of the partners' rows
  ihave Ho := (whole_split c f).1 $$ Ho
  icases Ho with ⟨Ho, P0, P1, P2, P3, P4⟩
  -- five signals
  unfold O₀
  iapply (wp_tell A K 0 c _ (dev1_eq c) 9 rfl f W) $$ [HO Tb0 P0]
  · isplitr; · iexact Jb0
    isplitl [HO]; · iexact HO
    isplitl [Tb0]; · iexact Tb0
    isplitl [P0]; · iexact P0
    isplitr; · iexact Rv0
    iexact Rb0
  iintro HO
  iapply (wp_tell A K 1 c _ (dev2_eq c) 8 rfl f W) $$ [HO Tb1 P1]
  · isplitr; · iexact Jb1
    isplitl [HO]; · iexact HO
    isplitl [Tb1]; · iexact Tb1
    isplitl [P1]; · iexact P1
    isplitr; · iexact Rv1
    iexact Rb1
  iintro HO
  iapply (wp_tell A K 2 c _ (dev3_eq c) 7 rfl f W) $$ [HO Tb2 P2]
  · isplitr; · iexact Jb2
    isplitl [HO]; · iexact HO
    isplitl [Tb2]; · iexact Tb2
    isplitl [P2]; · iexact P2
    isplitr; · iexact Rv2
    iexact Rb2
  iintro HO
  iapply (wp_tell A K 3 c _ (dev4_eq c) 6 rfl f W) $$ [HO Tb3 P3]
  · isplitr; · iexact Jb3
    isplitl [HO]; · iexact HO
    isplitl [Tb3]; · iexact Tb3
    isplitl [P3]; · iexact P3
    isplitr; · iexact Rv3
    iexact Rb3
  iintro HO
  iapply (wp_tell A K 4 c _ (dev5_eq c) 5 rfl f W) $$ [HO Tb4 P4]
  · isplitr; · iexact Jb4
    isplitl [HO]; · iexact HO
    isplitl [Tb4]; · iexact Tb4
    isplitl [P4]; · iexact P4
    isplitr; · iexact Rv4
    iexact Rb4
  iintro HO
  -- the wait for the partners' signals: the places in their buffers
  iapply (Rounds.wp_wait_rest_token 𝒱₀ ER (talk A) (c : Thread nD τ) none (κ := K (barCell c))
      (wpE_semWait_eq 𝒱₀ (c : Thread nD τ) none Set.univ) (Set.mem_univ _) () (O := owing c 5) (W := W) (R := 0) (m := 0) (T := ∅)
      ((Nat.zero_add 5).trans (expect_bar A c).symm)) $$ [HcB HO HatB]
  · isplitr; · iexact HIb
    isplitl [HcB]; · iexact HcB
    isplitl [HO]; · iexact HO
    isplitr; · iapply (mayWait c (.reg barS) 5 (Nat.le_refl 5) (Nat.le_of_eq (lv_bar c ()))); iexact Hlev
    iexact HatB
  iintro ⟨HO, HatB, -, Hpay⟩
  ihave Hp := (Entails.of_eq (rest_bar A c)) $$ Hpay
  icases Hp with ⟨P0, P1, P2, P3, P4⟩
  -- the store of the own rows
  iapply (wp_load 𝒱₀ (c : Thread nD τ) none Set.univ (m := cM) (Finset.subset_univ _)) $$ Hx; iintro Hx
  iapply (wp_load 𝒱₀ (c : Thread nD τ) none Set.univ (m := oM) (own_read c _)) $$ Ho; iintro Ho
  iapply (wp_store 𝒱₀ (c : Thread nD τ) none Set.univ (m := oM) (r := Rect.unit (s := S768x1024) (k0_off1 c) S24x1024.size (k0_off1_inb c)) (Mk := Finset.univ) (own_sub c _)) $$ Ho; iintro Ho
  ihave Ho := (Entails.of_eq (pointsTo_congr (store_own A c (k0_off1_inb c) f))) $$ Ho
  rw [wp_ret]; imodintro
  iapply Hk
  unfold openPost
  simp only [bigSep_five]
  isplitl [HatB]; · iexact HatB
  isplitl [P0 P1 P2 P3 P4]
  · isplitl [P0]; · iexact P0
    isplitl [P1]; · iexact P1
    isplitl [P2]; · iexact P2
    isplitl [P3]; · iexact P3
    iexact P4
  isplitl [Hx]; · iexact Hx
  isplitl [Ho]; · iexact Ho
  iexact HO

/-! ## The whole body -/

def talkPre (W : Waits sig Unit) : sProp 𝕄 :=
  iprop(opened A K c ∗ credits c ∗ levAts L lv ∗ cPts c (A c) ∗ (∃ f : Full F, seg c Finset.univ fullShare f) ∗ owes (c : Thread nD τ) (O₀ c) W)

def talkPost : sProp 𝕄 :=
  iprop(semVal (barCell c) 0 ∗ (bigSep Finset.univ fun k : Fin 5 => iprop(semVal (sendCell k c) 0 ∗ semVal (recvCell k c) 0))
    ∗ cPts c (A c) ∗ seg c Finset.univ fullShare (gathered A) ∗ ∃ W, owes (c : Thread nD τ) (0 : CellTallies nD τ sig Unit) W)

set_option maxHeartbeats 1600000 in
theorem talkRun (W : Waits sig Unit) (Kt : PUnit → sProp 𝕄) :
    iprop(talkPre A K c W ∗ (talkPost A c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _) cc0_scratch0 cc0_scratch1) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold talkPre opened invs credits stageToks
  simp only [bigSep_five]
  iintro ⟨⟨⟨⟨#HIb, ⟨#Is0, #Iv0, #Jb0, #Jv0, #Rb0⟩, ⟨#Is1, #Iv1, #Jb1, #Jv1, #Rb1⟩, ⟨#Is2, #Iv2, #Jb2, #Jv2, #Rb2⟩, ⟨#Is3, #Iv3, #Jb3, #Jv3, #Rb3⟩, ⟨#Is4, #Iv4, #Jb4, #Jv4, #Rb4⟩⟩, HatB,
      ⟨⟨⟨As0, #Rs0⟩, Av0, #Rv0⟩, Tb0, Ts0, Tv0⟩, ⟨⟨⟨As1, #Rs1⟩, Av1, #Rv1⟩, Tb1, Ts1, Tv1⟩, ⟨⟨⟨As2, #Rs2⟩, Av2, #Rv2⟩, Tb2, Ts2, Tv2⟩,
      ⟨⟨⟨As3, #Rs3⟩, Av3, #Rv3⟩, Tb3, Ts3, Tv3⟩, ⟨⟨⟨As4, #Rs4⟩, Av4, #Rv4⟩, Tb4, Ts4, Tv4⟩⟩,
    ⟨HcB, Cv0, Cv1, Cv2, Cv3, Cv4⟩, #Hlev, Hx, Ho, HO⟩, Hk⟩
  rw [wp_bind]
  iapply (opening A K c W _)
  isplitl [HatB Tb0 Tb1 Tb2 Tb3 Tb4 HcB Hx Ho HO]
  · unfold openPre
    simp only [bigSep_five]
    isplitr
    · isplitr; · iexact HIb
      isplitr; · iexact Hlev
      isplitr
      · isplitr; · iexact Jb0
        isplitr; · iexact Rb0
        iexact Rv0
      isplitr
      · isplitr; · iexact Jb1
        isplitr; · iexact Rb1
        iexact Rv1
      isplitr
      · isplitr; · iexact Jb2
        isplitr; · iexact Rb2
        iexact Rv2
      isplitr
      · isplitr; · iexact Jb3
        isplitr; · iexact Rb3
        iexact Rv3
      isplitr; · iexact Jb4
      isplitr; · iexact Rb4
      iexact Rv4
    isplitl [HatB]; · iexact HatB
    isplitl [Tb0 Tb1 Tb2 Tb3 Tb4]
    · isplitl [Tb0]; · iexact Tb0
      isplitl [Tb1]; · iexact Tb1
      isplitl [Tb2]; · iexact Tb2
      isplitl [Tb3]; · iexact Tb3
      iexact Tb4
    isplitl [HcB]; · iexact HcB
    isplitl [Hx]; · iexact Hx
    isplitl [Ho]; · iexact Ho
    iexact HO
  iintro %v
  unfold openPost
  simp only [bigSep_five]
  iintro ⟨HatB, ⟨P0, P1, P2, P3, P4⟩, Hx, Ho, HO⟩
  rw [wp_bind]
  iapply (stage0 A K c v (insert (SemLoc.reg barS, ()) W) _)
  isplitl [Ho P0 HO Ts0 Tv0 Cv0 Av0]
  · unfold stagePre
    isplitr
    · isplitr; · iexact Is0
      isplitr; · iexact Iv0
      isplitr; · iexact Jv0
      isplitr; · iexact Rs0
      iexact Hlev
    isplitl [Ho]; · iexact Ho
    isplitl [P0]; · iexact P0
    isplitl [HO]; · iexact HO
    isplitl [Ts0]; · iexact Ts0
    isplitl [Tv0]; · iexact Tv0
    isplitl [Cv0]; · iexact Cv0
    iexact Av0
  unfold stagePost
  iintro ⟨Cs0, HO, Av0, Ho, B0⟩
  rw [wp_bind]
  iapply (stage1 A K c v (insert (SemLoc.dma (recvS 0), ()) (insert (SemLoc.reg barS, ()) W)) _)
  isplitl [Ho P1 HO Ts1 Tv1 Cv1 Av1]
  · unfold stagePre
    isplitr
    · isplitr; · iexact Is1
      isplitr; · iexact Iv1
      isplitr; · iexact Jv1
      isplitr; · iexact Rs1
      iexact Hlev
    isplitl [Ho]; · iexact Ho
    isplitl [P1]; · iexact P1
    isplitl [HO]; · iexact HO
    isplitl [Ts1]; · iexact Ts1
    isplitl [Tv1]; · iexact Tv1
    isplitl [Cv1]; · iexact Cv1
    iexact Av1
  unfold stagePost
  iintro ⟨Cs1, HO, Av1, Ho, B1⟩
  rw [wp_bind]
  iapply (stage2 A K c v (insert (SemLoc.dma (recvS 1), ()) (insert (SemLoc.dma (recvS 0), ()) (insert (SemLoc.reg barS, ()) W))) _)
  isplitl [Ho P2 HO Ts2 Tv2 Cv2 Av2]
  · unfold stagePre
    isplitr
    · isplitr; · iexact Is2
      isplitr; · iexact Iv2
      isplitr; · iexact Jv2
      isplitr; · iexact Rs2
      iexact Hlev
    isplitl [Ho]; · iexact Ho
    isplitl [P2]; · iexact P2
    isplitl [HO]; · iexact HO
    isplitl [Ts2]; · iexact Ts2
    isplitl [Tv2]; · iexact Tv2
    isplitl [Cv2]; · iexact Cv2
    iexact Av2
  unfold stagePost
  iintro ⟨Cs2, HO, Av2, Ho, B2⟩
  rw [wp_bind]
  iapply (stage3 A K c v (insert (SemLoc.dma (recvS 2), ()) (insert (SemLoc.dma (recvS 1), ()) (insert (SemLoc.dma (recvS 0), ()) (insert (SemLoc.reg barS, ()) W)))) _)
  isplitl [Ho P3 HO Ts3 Tv3 Cv3 Av3]
  · unfold stagePre
    isplitr
    · isplitr; · iexact Is3
      isplitr; · iexact Iv3
      isplitr; · iexact Jv3
      isplitr; · iexact Rs3
      iexact Hlev
    isplitl [Ho]; · iexact Ho
    isplitl [P3]; · iexact P3
    isplitl [HO]; · iexact HO
    isplitl [Ts3]; · iexact Ts3
    isplitl [Tv3]; · iexact Tv3
    isplitl [Cv3]; · iexact Cv3
    iexact Av3
  unfold stagePost
  iintro ⟨Cs3, HO, Av3, Ho, B3⟩
  rw [wp_bind]
  iapply (stage4 A K c v (insert (SemLoc.dma (recvS 3), ()) (insert (SemLoc.dma (recvS 2), ()) (insert (SemLoc.dma (recvS 1), ()) (insert (SemLoc.dma (recvS 0), ()) (insert (SemLoc.reg barS, ()) W))))) _)
  isplitl [Ho P4 HO Ts4 Tv4 Cv4 Av4]
  · unfold stagePre
    isplitr
    · isplitr; · iexact Is4
      isplitr; · iexact Iv4
      isplitr; · iexact Jv4
      isplitr; · iexact Rs4
      iexact Hlev
    isplitl [Ho]; · iexact Ho
    isplitl [P4]; · iexact P4
    isplitl [HO]; · iexact HO
    isplitl [Ts4]; · iexact Ts4
    isplitl [Tv4]; · iexact Tv4
    isplitl [Cv4]; · iexact Cv4
    iexact Av4
  unfold stagePost
  iintro ⟨Cs4, HO, Av4, Ho, B4⟩
  simp only [Prog.lift, Prog.bind_op, Prog.bind_ret, Prog.pure_eq_ret]
  -- the waits for the sends
  iapply (wp_regain A K 0 c (Rect.unit (s := S768x1024) (k0_off2 c) S24x1024.size (k0_off2_inb c)) (fun _ => rfl) (credit0 _) (sS := _) rfl (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))) $$ [Cs0 HO As0]
  · isplitr; · iexact Is0
    isplitl [Cs0]; · iexact Cs0
    isplitl [HO]; · iexact HO
    iexact As0
  iintro ⟨HO, As0, L0⟩
  iapply (wp_regain A K 1 c (Rect.unit (s := S768x1024) (k0_off3 c) S48x1024.size (k0_off3_inb c)) (fun _ => rfl) (credit1 _) (sS := _) rfl (insert (SemLoc.dma (sendS 0), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))) $$ [Cs1 HO As1]
  · isplitr; · iexact Is1
    isplitl [Cs1]; · iexact Cs1
    isplitl [HO]; · iexact HO
    iexact As1
  iintro ⟨HO, As1, L1⟩
  iapply (wp_regain A K 2 c (Rect.unit (s := S768x1024) (k0_off4 c) S96x1024.size (k0_off4_inb c)) (fun _ => rfl) (credit2 _) (sS := _) rfl (insert (SemLoc.dma (sendS 1), ()) (insert (SemLoc.dma (sendS 0), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))))) $$ [Cs2 HO As2]
  · isplitr; · iexact Is2
    isplitl [Cs2]; · iexact Cs2
    isplitl [HO]; · iexact HO
    iexact As2
  iintro ⟨HO, As2, L2⟩
  iapply (wp_regain A K 3 c (Rect.unit (s := S768x1024) (k0_off5 c) S192x1024.size (k0_off5_inb c)) (fun _ => rfl) (credit3 _) (sS := _) rfl (insert (SemLoc.dma (sendS 2), ()) (insert (SemLoc.dma (sendS 1), ()) (insert (SemLoc.dma (sendS 0), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))) $$ [Cs3 HO As3]
  · isplitr; · iexact Is3
    isplitl [Cs3]; · iexact Cs3
    isplitl [HO]; · iexact HO
    iexact As3
  iintro ⟨HO, As3, L3⟩
  iapply (wp_regain A K 4 c (Rect.unit (s := S768x1024) (k0_off6 c) S384x1024.size (k0_off6_inb c)) (fun _ => rfl) (credit4 _) (sS := _) rfl (insert (SemLoc.dma (sendS 3), ()) (insert (SemLoc.dma (sendS 2), ()) (insert (SemLoc.dma (sendS 1), ()) (insert (SemLoc.dma (sendS 0), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))))))) $$ [Cs4 HO As4]
  · isplitr; · iexact Is4
    isplitl [Cs4]; · iexact Cs4
    isplitl [HO]; · iexact HO
    iexact As4
  iintro ⟨HO, As4, L4⟩
  -- every lent row back in its place
  ihave Ho := (stage_back A 4 c) $$ [Ho B4 L4]
  · isplitl [Ho]; · iexact Ho
    isplitl [B4]; · iexact B4
    iexact L4
  icases Ho with ⟨Ho, P4⟩
  ihave Ho := (stage_back A 3 c) $$ [Ho B3 L3]
  · isplitl [Ho]; · iexact Ho
    isplitl [B3]; · iexact B3
    iexact L3
  icases Ho with ⟨Ho, P3⟩
  ihave Ho := (stage_back A 2 c) $$ [Ho B2 L2]
  · isplitl [Ho]; · iexact Ho
    isplitl [B2]; · iexact B2
    iexact L2
  icases Ho with ⟨Ho, P2⟩
  ihave Ho := (stage_back A 1 c) $$ [Ho B1 L1]
  · isplitl [Ho]; · iexact Ho
    isplitl [B1]; · iexact B1
    iexact L1
  icases Ho with ⟨Ho, P1⟩
  ihave Ho := (stage_back A 0 c) $$ [Ho B0 L0]
  · isplitl [Ho]; · iexact Ho
    isplitl [B0]; · iexact B0
    iexact L0
  icases Ho with ⟨Ho, P0⟩
  ihave Ho := (whole_split c (gathered A)).2 $$ [Ho P0 P1 P2 P3 P4]
  · isplitl [Ho]; · iexact Ho
    isplitl [P0]; · iexact P0
    isplitl [P1]; · iexact P1
    isplitl [P2]; · iexact P2
    isplitl [P3]; · iexact P3
    iexact P4
  rw [wp_ret]
  imod (close A (K (barCell c)) (barCell c)) $$ [HatB] with HatB
  · isplitr; · iexact HIb
    iexact HatB
  imod (close A (K (sendCell 0 c)) (sendCell 0 c)) $$ [As0] with As0
  · isplitr; · iexact Is0
    iexact As0
  imod (close A (K (recvCell 0 c)) (recvCell 0 c)) $$ [Av0] with Av0
  · isplitr; · iexact Iv0
    iexact Av0
  imod (close A (K (sendCell 1 c)) (sendCell 1 c)) $$ [As1] with As1
  · isplitr; · iexact Is1
    iexact As1
  imod (close A (K (recvCell 1 c)) (recvCell 1 c)) $$ [Av1] with Av1
  · isplitr; · iexact Iv1
    iexact Av1
  imod (close A (K (sendCell 2 c)) (sendCell 2 c)) $$ [As2] with As2
  · isplitr; · iexact Is2
    iexact As2
  imod (close A (K (recvCell 2 c)) (recvCell 2 c)) $$ [Av2] with Av2
  · isplitr; · iexact Iv2
    iexact Av2
  imod (close A (K (sendCell 3 c)) (sendCell 3 c)) $$ [As3] with As3
  · isplitr; · iexact Is3
    iexact As3
  imod (close A (K (recvCell 3 c)) (recvCell 3 c)) $$ [Av3] with Av3
  · isplitr; · iexact Iv3
    iexact Av3
  imod (close A (K (sendCell 4 c)) (sendCell 4 c)) $$ [As4] with As4
  · isplitr; · iexact Is4
    iexact As4
  imod (close A (K (recvCell 4 c)) (recvCell 4 c)) $$ [Av4] with Av4
  · isplitr; · iexact Iv4
    iexact Av4
  imodintro
  iapply Hk
  unfold talkPost
  simp only [bigSep_five]
  isplitl [HatB]; · iexact HatB
  isplitl [As0 Av0 As1 Av1 As2 Av2 As3 Av3 As4 Av4]
  · isplitl [As0 Av0]
    · isplitl [As0]; · iexact As0
      iexact Av0
    isplitl [As1 Av1]
    · isplitl [As1]; · iexact As1
      iexact Av1
    isplitl [As2 Av2]
    · isplitl [As2]; · iexact As2
      iexact Av2
    isplitl [As3 Av3]
    · isplitl [As3]; · iexact As3
      iexact Av3
    isplitl [As4]; · iexact As4
    iexact Av4
  isplitl [Hx]; · iexact Hx
  isplitl [Ho]; · iexact Ho
  iexists _; iexact HO

end Cert.Proof

end
-- ==== Proof.Region.lean ====
/-
  The gathering kernel as a region of the program, over any float values.

  The region is entered with the buffers the host operations left, and the ghost state from the launch. It is left with
  the gathered rows in the result buffer, the device owing nothing, and its semaphores at zero.
-/
module

public import proofs.«01_k».proof.Proof.Body
public import proofs.«01_k».proof.Proof.Gen.KernelIdeal.Regions

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The contents before and after -/

/-- The rows device `c` brings: what its host operations leave for the kernel. -/
def mine (c : Dev nD) : Part F := V7 m c main_v69

/-- What the region leaves in its result buffer, on every device the same. -/
def left : Outs (F := F) := fun _ r _ =>
  if h : r = main_v70 then h ▸ (gathered (mine m) : (main_v70 : Ref sig .tc).ty.Contents (Elt F)) else fun _ => Classical.choice inferInstance

theorem left_v70 (c : Dev nD) : left m 8 main_v70 c = gathered (mine m) := by
  unfold left; rw [dif_pos rfl]

/-- The region's proof data. -/
def dats (_ : Fin 1) (c : Dev nD) : Dat τ (Elt F) Unit ℕ UU ℕ cfg0 c where
  A w := match w with
    | ⟨0, _⟩ => V7 m c main_v69
    | ⟨1, _⟩ => V7 m c main_v70
  after w _ := match w with
    | ⟨0, _⟩ => mine m c
    | ⟨1, _⟩ => gathered (mine m)
  Φ t := if t.val = 0 then iprop(((∃ K, opened (mine m) K c) ∗ credits c ∗ levAts L lv) ∗ ∃ r, prngReg c r)
    else iprop((semVal (barCell c) 0 ∗ bigSep Finset.univ fun k : Fin 5 => iprop(semVal (sendCell k c) 0 ∗ semVal (recvCell k c) 0)) ∗ ∃ r, prngReg c r)
  q _ := fullShare
  owed t := if t.val = 0 then O₀ c else 0

section Points

variable (c : Dev nD) (t : Fin (cfg0.N + 1))

theorem owed_eq : (dats m 0 c).owed t = if t.val = 0 then O₀ c else 0 := rfl
theorem state_eq : (dats m 0 c).Φ t = if t.val = 0 then iprop(((∃ K, opened (mine m) K c) ∗ credits c ∗ levAts L lv) ∗ ∃ r, prngReg c r)
    else iprop((semVal (barCell c) 0 ∗ bigSep Finset.univ fun k : Fin 5 => iprop(semVal (sendCell k c) 0 ∗ semVal (recvCell k c) 0)) ∗ ∃ r, prngReg c r) := rfl

end Points

theorem owed_first (c : Dev nD) : (dats m 0 c).owed t0_0.castSucc = O₀ c := by rw [owed_eq]; exact if_pos rfl
theorem owed_last (c : Dev nD) : (dats m 0 c).owed t0_0.succ = 0 := by rw [owed_eq]; exact if_neg (Nat.succ_ne_zero _)

/-- A window's block is its whole array. -/
theorem block_in (f : Part F) : (win0_0.blk t0_0).view.read (Elt F) f = f :=
  funext fun i => congrArg f (funext fun a => Fin.ext (show 0 * _ + 1 * (i a).val = (i a).val by omega))
theorem block_out (f : Full F) : (win0_1.blk t0_0).view.read (Elt F) f = f :=
  funext fun i => congrArg f (funext fun a => Fin.ext (show 0 * _ + 1 * (i a).val = (i a).val by omega))

/-- A staging buffer at given contents, as the pipeline says it. -/
def staged (c : Dev nD) (b : Ref sig .tc) (X : b.ty.Contents (Elt F)) : sProp 𝕄 :=
  iprop(∃ f : b.ty.Contents (Elt F), ⌜f = X⌝ ∗ ((c : Thread nD τ).loc b) ↦{fullShare} f)

/-- What the body starts from, and what it leaves, at the region's one point. -/
def pointPre (c : Dev nD) : sProp 𝕄 :=
  iprop((((∃ K, opened (mine m) K c) ∗ credits c ∗ levAts L lv) ∗ ∃ r, prngReg c r)
    ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))
def pointPost (c : Dev nD) : sProp 𝕄 :=
  iprop(((semVal (barCell c) 0 ∗ bigSep Finset.univ fun k : Fin 5 => iprop(semVal (sendCell k c) 0 ∗ semVal (recvCell k c) 0)) ∗ ∃ r, prngReg c r)
    ∗ (dats m 0 c).owesAt () t0_0.succ
    ∗ staged c cc0_stg0_0 (mine m c) ∗ staged c cc0_stg1_0 (gathered (mine m)))

theorem before_mine (c : Dev nD) (d) : (dats m 0 c).before (0 : Fin 2) t0_0 d = mine m c := by
  unfold Dat.before
  rw [if_pos (fetch0_0 t0_0)]
  exact block_in (mine m c)

theorem point_run (c : Dev nD) :
    pointPre m c ⊢ wp frame (wpE (defs₀ (F := F)) 𝒱₀ c none) Set.univ
      (cc0_body (Memref.whole cc0_stg0_0) (Memref.isWhole_whole _) (Memref.whole cc0_stg1_0) (Memref.isWhole_whole _) cc0_scratch0 cc0_scratch1)
      (fun _ => pointPost m c) := by
  unfold pointPre staged
  iintro ⟨⟨⟨⟨%K, Hg⟩, Hc, Hl⟩, Hp⟩, Ho, ⟨%d, %f, %hf, Hx⟩, ⟨%d', %f', -, Hy⟩⟩
  rw [before_mine] at hf
  subst hf
  unfold Dat.owesAt Pipeline.owesWithin
  icases Ho with ⟨%W, -, HO⟩
  rw [owed_first]
  iapply (talkRun (mine m) K c W (fun _ => pointPost m c))
  isplitl [Hg Hc Hl Hx Hy HO]
  · unfold talkPre
    isplitl [Hg]; · iexact Hg
    isplitl [Hc]; · iexact Hc
    isplitl [Hl]; · iexact Hl
    isplitl [Hx]; · iexact Hx
    isplitl [Hy]; · iexists f'; iexact Hy
    iexact HO
  · unfold talkPost pointPost staged
    iintro ⟨Hb, Hs, Hx, Hy, ⟨%W', HO⟩⟩
    isplitl [Hb Hs Hp]
    · isplitl [Hb Hs]
      · isplitl [Hb]; · iexact Hb
        iexact Hs
      iexact Hp
    isplitl [HO]
    · unfold Dat.owesAt Pipeline.owesWithin Dat.bound
      rw [owed_last]
      iexists W'
      isplitr; · ipureintro; exact fun _ _ => Or.inl trivial
      iexact HO
    isplitl [Hx]
    · iexists (mine m c)
      isplitr; · ipureintro; rfl
      iexact Hx
    · iexists (gathered (mine m))
      isplitr; · ipureintro; rfl
      iexact Hy

theorem body_runs (c : Dev nD) : BodyObligation (dats m 0 c) (defs₀ (F := F)) 𝒱₀ () Set.univ := fun t => by
  rw [fin_N0 t]
  rw [bigSep_W0, bigSep_W0]
  simp only [owns_whole_eq]
  exact point_run m c

/-! ## Entering and leaving -/

/-- What a device brings to the region besides buffers, before and after its cells are opened, and what it keeps. -/
def bring (c : Dev nD) : sProp 𝕄 := iprop((∃ K, ghost (mine m) K c) ∗ credits c)
def enter (c : Dev nD) : sProp 𝕄 := iprop((∃ K, opened (mine m) K c) ∗ credits c ∗ levAts L lv)
def keeps (c : Dev nD) : sProp 𝕄 := semVal (barCell c) 0

theorem own_sems (c : Dev nD) : (Pipeline.ownSems0 osem c : sProp 𝕄)
    = bigSep Finset.univ fun k : Fin 5 => iprop(semVal (sendCell k c) 0 ∗ semVal (recvCell k c) 0) := by
  unfold Pipeline.ownSems0
  rw [bigSep_univ_prod]
  exact bigSep_congr fun k _ => by
    rw [show (Finset.univ : Finset Bool) = {false, true} from by decide, bigSep_insert (by decide), bigSep_singleton]
    rfl

/-- One stage's two cells opened. -/
theorem open_stage (K : GSem nD τ sig → ℕ) (k : Fin 5) (c : Dev nD) :
    iprop(invs (mine m) K c ∗ (((openTok ER (sendCell k c) ∗ openTok ER (recvCell k c)) ∗ stageToks k c) ∗ (semVal (sendCell k c) 0 ∗ semVal (recvCell k c) 0)))
      ⊢ (|={Set.univ}=> iprop(((atPos ER (sendCell k c) 0 ∅ 0 ∗ reached ER (sendCell k c) 0) ∗ (atPos ER (recvCell k c) 0 ∅ 0 ∗ reached ER (recvCell k c) 0))
        ∗ stageToks k c) : sProp 𝕄) := by
  unfold invs
  rw [bigSep_univ_at _ k]
  iintro ⟨⟨-, ⟨#HIs, #HIv, -⟩, -⟩, ⟨⟨Hs, Hv⟩, Ht⟩, Ss, Sv⟩
  imod (Rounds.cell_open ER (talk (mine m)) (g := sendCell k c) (Set.mem_univ (K (sendCell k c)))) $$ [Hs Ss] with ⟨As, Rs⟩
  · isplitr; · iexact HIs
    isplitl [Hs]; · iexact Hs
    iexact Ss
  imod (Rounds.cell_open ER (talk (mine m)) (g := recvCell k c) (Set.mem_univ (K (recvCell k c)))) $$ [Hv Sv] with ⟨Av, Rv⟩
  · isplitr; · iexact HIv
    isplitl [Hv]; · iexact Hv
    iexact Sv
  imodintro
  isplitr [Ht]
  · isplitl [As Rs]
    · isplitl [As]; · iexact As
      iexact Rs
    · isplitl [Av]; · iexact Av
      iexact Rv
  iexact Ht

theorem enters (c : Dev nD) : iprop(bring m c ∗ Pipeline.ownSems0 osem c ∗ levAts L lv) ⊢ (|={Set.univ}=> enter m c : sProp 𝕄) := by
  rw [own_sems]
  unfold bring enter ghost
  iintro ⟨⟨⟨%K, #HI, Hat, Hk⟩, Hc⟩, Hs, Hl⟩
  ihave H := (Entails.of_eq (bigSep_sep' (s := Finset.univ) (Φ := fun k : Fin 5 => iprop((openTok ER (sendCell k c) ∗ openTok ER (recvCell k c)) ∗ stageToks k c))
      (Ψ := fun k : Fin 5 => (iprop(semVal (sendCell k c) 0 ∗ semVal (recvCell k c) 0) : sProp 𝕄))).symm) $$ [Hk Hs]
  · isplitl [Hk]; · iexact Hk
    iexact Hs
  ihave H := (bigSep_with_persistent (R := invs (mine m) K c) (S := Finset.univ) fun k _ => open_stage m K k c) $$ [H]
  · isplitr; · iexact HI
    iexact H
  imod (bigSep_fupd _ _) $$ H with H
  imodintro
  isplitr [Hc Hl]
  · iexists K
    unfold opened
    isplitr; · iexact HI
    isplitl [Hat]; · iexact Hat
    iexact H
  isplitl [Hc]; · iexact Hc
  iexact Hl

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem held_none (c : Dev nD) (W : Valuation τ sig (Elt F)) : (StableHlo.held (c.tc : Thread nD τ) ∅ W : sProp 𝕄) = BI.emp := by
  unfold StableHlo.held; exact BI.bigSep_empty

theorem starts (c : Dev nD) : iprop(Pipeline.scopedRest (Pipeline.pin (pcfgs (F := F)) adm 0).spec c ∗ (∃ r, prngReg c r)
      ∗ StableHlo.held (c.tc : Thread nD τ) ∅ (V7 m c) ∗ enter m c) ⊢ (dats m 0 c).Φ 0 := by
  rw [show (dats m 0 c).Φ 0 = iprop(((∃ K, opened (mine m) K c) ∗ credits c ∗ levAts L lv) ∗ ∃ r, prngReg c r) from by rw [state_eq]; exact if_pos rfl]
  unfold enter
  iintro ⟨-, Hp, -, HX⟩
  isplitl [HX]; · iexact HX
  iexact Hp

theorem ends (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V8 m (left m) c) ∗ Pipeline.ownSems0 osem c ∗ keeps c) := by
  rw [show (dats m 0 c).Φ (Fin.last (Pipeline.pin (pcfgs (F := F)) adm 0).N)
      = iprop((semVal (barCell c) 0 ∗ bigSep Finset.univ fun k : Fin 5 => iprop(semVal (sendCell k c) 0 ∗ semVal (recvCell k c) 0)) ∗ ∃ r, prngReg c r) from by rw [state_eq]; exact if_neg (show ¬ (1 : ℕ) = 0 from Nat.succ_ne_zero 0),
    own_sems, held_none, show Pipeline.scopedRest (Pipeline.pin (pcfgs (F := F)) adm 0).spec c = (BI.emp : sProp 𝕄) from scopedRest0_eq c]
  unfold keeps
  iintro ⟨⟨Hb, Hs⟩, Hp⟩
  isplitr; · iempintro
  isplitl [Hp]; · iexact Hp
  isplitr; · iempintro
  isplitl [Hs]; · iexact Hs
  iexact Hb

theorem cut (c : Dev nD) (t : Fin ((Pipeline.pin (pcfgs (F := F)) adm 0).N + 1)) (g : GSem nD τ sig) (i : Unit) (h : 0 < (dats m 0 c).owed t g i) :
    i ∈ L g ∧ (0 : ℕ) < lv g i := by
  have e : (dats m 0 c).owed t = if t.val = 0 then O₀ c else 0 := rfl
  rw [e] at h
  split at h
  · obtain ⟨⟨d, s, rfl⟩, hl⟩ := owing_pos c 10 (Nat.le_refl _) h
    refine ⟨by rw [L_tc]; exact Finset.mem_singleton_self _, ?_⟩
    rw [if_neg (by decide)] at hl; exact hl
  · exact absurd h (Nat.lt_irrefl 0)

theorem result_arr (c : Dev nD) : (dats m 0 c).arrAt (1 : Fin 2) cfg0.N = gathered (mine m) := by
  rw [show cfg0.N = t0_0.val + 1 from N_0, (dats m 0 c).arrAt_succ (1 : Fin 2) t0_0, if_pos (flush0_1 t0_0)]
  exact (block_out _).symm.trans (View.read_write_univ _ _)

theorem arr0 (c : Dev nD) (w : Fin 2) : (dats m 0 c).arrAt w 0 = V7 m c (Proc.devRef .tc (Pipeline.arrRef spec0 w)) := by
  match w with
  | ⟨0, _⟩ => rfl
  | ⟨1, _⟩ => rfl

theorem arrN (c : Dev nD) (w : Fin 2) : (dats m 0 c).arrAt w cfg0.N = V8 m (left m) c (Proc.devRef .tc (Pipeline.arrRef spec0 w)) := by
  match w with
  | ⟨0, _⟩ =>
    refine ((dats m 0 c).arrAt_in (0 : Fin 2) rfl _).trans ?_
    exact (Function.update_of_ne (by decide : (Proc.devRef .tc main_v69 : DevRef τ sig) ≠ Proc.devRef .tc main_v70) (left m 8 main_v70 c) (V7 m c)).symm
  | ⟨1, _⟩ =>
    refine (result_arr m c).trans ?_
    rw [← left_v70 m c]
    exact (Function.update_self (Proc.devRef .tc main_v70 : DevRef τ sig) (left m 8 main_v70 c) (V7 m c)).symm

/-- The buffers the region does not name. -/
abbrev others : Finset (DevRef τ sig) := Pipeline.ucRefs τ sig \ Pipeline.arrRefs (τ := τ) (pcfgs (F := F) 0).spec

theorem others_same (c : Dev nD) (b : DevRef τ sig) (hb : b ∈ others (F := F) \ ∅) : V8 m (left m) c b = V7 m c b := by
  refine Function.update_of_ne (fun h : b = Proc.devRef .tc main_v70 => ?_) _ _
  rw [Finset.sdiff_empty] at hb
  refine (Finset.mem_sdiff.mp hb).2 ?_
  rw [h]
  exact (by decide : Proc.devRef .tc main_v70 ∈ Pipeline.arrRefs (τ := τ) spec0)

set_option backward.isDefEq.respectTransparency.types false in
set_option backward.proofsInPublic true in
def region : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ (others (F := F)) (Finset.empty_subset _) kit rfl (fun c => (body_runs m c).loose)
    (fun _ => 0) O₀ (fun c => (by rw [owed_eq]; exact if_pos rfl : (dats m 0 c).owed 0 = O₀ c).trans (zero_add _).symm)
    (fun c => (by rw [owed_eq]; exact if_neg (by decide) : (dats m 0 c).owed (Fin.last _) = 0)) (fun _ => rfl) (fun c => (dats m 0 c).share_full fun _ => rfl)
    (V7 m) (V8 m (left m)) (fun c b hb => others_same m c b hb)
    (bring m) keeps (enter m) keeps (enters m) (starts m) (ends m)
    (fun c => by iintro H; imodintro; iexact H)
    (fun _ => 0)
    ⟨fun c w s => by rw [L_tc]; exact Finset.mem_singleton_self _,
      fun c w s => by
        match w with
        | ⟨0, _⟩ => exact Nat.le_refl 0
        | ⟨1, _⟩ => exact Nat.le_refl 0,
      fun c t g i h => cut m c t g i h⟩
    (fun _ => iprop(emp))
    (arr0 m) (arrN m)

/-- The thread state around the region, besides the buffers. -/
def rest : Fin 2 → Dev nD → sProp 𝕄
  | 0, c => iprop((bring m c ∗ ∃ r, prngReg c r) ∗ ∃ W, owes (c : Thread nD τ) (O₀ c) W)
  | 1, c => iprop(semVal (barCell c) 0 ∗ ∃ W, owes (c : Thread nD τ) (0 : CellTallies nD τ sig Unit) W)

theorem held_parts (c : Dev nD) (W : Valuation τ sig (Elt F)) : (StableHlo.held (c.tc : Thread nD τ) (Pipeline.ucRefs τ sig) W : sProp 𝕄)
    = iprop(StableHlo.held (c.tc : Thread nD τ) (Pipeline.arrRefs (τ := τ) (pcfgs (F := F) 0).spec) W ∗ StableHlo.held (c.tc : Thread nD τ) (others (F := F)) W) :=
  StableHlo.held_sub_split (c.tc : Thread nD τ) (by decide : Pipeline.arrRefs (τ := τ) spec0 ⊆ Pipeline.ucRefs τ sig) W

theorem region_pre (c : Dev nD) : iprop(StableHlo.held (c : Thread nD τ) (Pipeline.ucRefs τ sig) (V7 m c) ∗ rest m 0 c) ⊢ (region m).pre c := by
  show _ ⊢ iprop(StableHlo.held (c.tc : Thread nD τ) (Pipeline.arrRefs (τ := τ) (pcfgs (F := F) 0).spec) (V7 m c) ∗ (∃ r, prngReg c r)
    ∗ (StableHlo.held (c.tc : Thread nD τ) (others (F := F)) (V7 m c) ∗ emp) ∗ bring m c ∗ ∃ Wd, owes (c : Thread nD τ) (0 + O₀ c) Wd)
  rw [held_parts, zero_add]
  unfold rest
  iintro ⟨⟨Ha, Hh⟩, ⟨Hb, Hp⟩, HO⟩
  isplitl [Ha]; · iexact Ha
  isplitl [Hp]; · iexact Hp
  isplitl [Hh]
  · isplitl [Hh]; · iexact Hh
    iempintro
  isplitl [Hb]; · iexact Hb
  iexact HO

theorem region_post (c : Dev nD) : (region m).post c
    ⊢ iprop(StableHlo.held (c : Thread nD τ) (Pipeline.ucRefs τ sig) (V8 m (left m) c) ∗ rest m 1 c) := by
  show iprop(StableHlo.held (c.tc : Thread nD τ) (Pipeline.arrRefs (τ := τ) (pcfgs (F := F) 0).spec) (V8 m (left m) c) ∗ (∃ r, prngReg c r)
    ∗ (StableHlo.held (c.tc : Thread nD τ) (others (F := F)) (V8 m (left m) c) ∗ emp) ∗ keeps c ∗ ∃ Wd, owes (c : Thread nD τ) (0 : CellTallies nD τ sig Unit) Wd) ⊢ _
  rw [held_parts]
  unfold keeps rest
  iintro ⟨Ha, -, ⟨Hh, -⟩, Hb, HO⟩
  isplitl [Ha Hh]
  · isplitl [Ha]; · iexact Ha
    iexact Hh
  isplitl [Hb]; · iexact Hb
  iexact HO

end Cert.Proof

end
-- ==== Proof.Launch.lean ====
/-
  The whole run, over any float values: the launch deals every device its part of the protocol, the segments run in
  order, and at the end the arguments are as they were, the result is what the host operations make of the gathered
  rows, and every semaphore reads zero.
-/
module

public import proofs.«01_k».proof.Proof.Region
public import Idealize.ShloMosaic.Lib.Quiescent

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

def barAt : Dev nD ↪ GSem nD τ sig := ⟨fun c => barCell c, fun _ _ h => congrArg (fun g : GSem nD τ sig => g.1.1) h⟩
def ownAt : Dev nD × (Fin 5 × Bool) ↪ GSem nD τ sig :=
  ⟨fun x => ((x.1 : Thread nD τ), osem x.2), fun _ _ h =>
    Prod.ext (congrArg (fun g : GSem nD τ sig => g.1.1) h) (osem_inj (congrArg Prod.snd h))⟩

/-- The barrier cells, and the cells that are opened when the kernel starts. -/
abbrev bars : Finset (GSem nD τ sig) := Finset.univ.map barAt
abbrev owns' : Finset (GSem nD τ sig) := Finset.univ.map ownAt

/-- A device's fifteen payments received, by stage: on the barrier, on the send cell, on the receive cell. -/
def tokSem (x : Fin 5 × Fin 3) : SemLoc sig × Fin 5 :=
  match x.2 with
    | 0 => (.reg barS, x.1)
    | 1 => (.dma (sendS x.1), 0)
    | 2 => (.dma (recvS x.1), 0)

theorem tokSem_inj : Function.Injective tokSem := by decide +kernel

def tokens : Finset (GSem nD τ sig × ℕ × Fin 5) :=
  Finset.univ.map ⟨fun x : Dev nD × (Fin 5 × Fin 3) => (((x.1 : Thread nD τ), (tokSem x.2).1), 0, (tokSem x.2).2), fun _ _ h =>
    Prod.ext (congrArg (fun t : GSem nD τ sig × ℕ × Fin 5 => t.1.1.1) h)
      (tokSem_inj (Prod.ext (congrArg (fun t : GSem nD τ sig × ℕ × Fin 5 => t.1.2) h) (congrArg (fun t : GSem nD τ sig × ℕ × Fin 5 => t.2.2) h)))⟩

theorem cells_disjoint : Disjoint bars owns' := by
  rw [Finset.disjoint_left]
  rintro g h₁ h₂
  obtain ⟨c, -, rfl⟩ := Finset.mem_map.mp h₁
  obtain ⟨x, -, h⟩ := Finset.mem_map.mp h₂
  exact (by decide : ∀ y, osem y ≠ .reg barS) x.2 (congrArg Prod.snd h)

theorem bar_mem (c : Dev nD) : barCell c ∈ bars ∪ owns' := Finset.mem_union_left _ (Finset.mem_map_of_mem barAt (Finset.mem_univ c))
theorem send_mem (k : Fin 5) (c : Dev nD) : sendCell k c ∈ bars ∪ owns' :=
  Finset.mem_union_right _ (Finset.mem_map_of_mem ownAt (Finset.mem_univ (c, (k, false))))
theorem recv_mem (k : Fin 5) (c : Dev nD) : recvCell k c ∈ bars ∪ owns' :=
  Finset.mem_union_right _ (Finset.mem_map_of_mem ownAt (Finset.mem_univ (c, (k, true))))

/-- The launch's element: the pipeline's at its staging cells, the exchange's at its own. -/
def u₀ : UU :=
  (initOf (Pipeline.cells (Pipeline.pin (pcfgs (F := F)) adm) cellOf_inj) (Pipeline.launchToks (Pipeline.pin (pcfgs (F := F)) adm) cellOf_inj),
    launchOf bars owns' tokens)

/-- The exchange's element is kept whole on device 0 until it is dealt. -/
def parked (c : Dev nD) : sProp 𝕄 := if c = 0 then BI.own (ER (launchOf bars owns' tokens)) else iprop(emp)

theorem parked_all : bigSep Finset.univ (parked (F := F)) = BI.own (ER (launchOf bars owns' tokens)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-! ## Dealing -/

/-- What every device may consult. -/
def shared (κ : GSem nD τ sig → ℕ) : sProp 𝕄 :=
  iprop((bigSep (bars ∪ owns') fun g => cellInv ER (talk (mine m)) (κ g) g) ∗ bigSep bars fun g => reached ER g 0)

instance shared_persistent (κ : GSem nD τ sig → ℕ) : BI.Persistent (shared m κ) := by unfold shared; infer_instance

theorem shared_inv (κ : GSem nD τ sig → ℕ) {g : GSem nD τ sig} (hg : g ∈ bars ∪ owns') : shared m κ ⊢ cellInv ER (talk (mine m)) (κ g) g := by
  have e : (bigSep (bars ∪ owns') fun g => cellInv ER (talk (mine m)) (κ g) g) ⊢ (cellInv ER (talk (mine m)) (κ g) g : sProp 𝕄) := bigSep_elim hg
  unfold shared
  iintro ⟨#H, -⟩
  iapply e
  iexact H

theorem shared_bar (κ : GSem nD τ sig → ℕ) (c : Dev nD) : shared m κ ⊢ reached ER (barCell c) 0 := by
  have e : (bigSep bars fun g => reached ER g 0) ⊢ (reached ER (barCell c) 0 : sProp 𝕄) :=
    bigSep_elim (Finset.mem_map_of_mem barAt (Finset.mem_univ c))
  unfold shared
  iintro ⟨-, #H⟩
  iapply e
  iexact H

/-- What a device alone gets. -/
def dealt (c : Dev nD) : sProp 𝕄 :=
  iprop(atPos ER (barCell c) 0 ∅ 0
    ∗ bigSep Finset.univ fun k : Fin 5 => iprop((openTok ER (sendCell k c) ∗ openTok ER (recvCell k c)) ∗ stageToks k c))

theorem shared_stage (κ : GSem nD τ sig → ℕ) (c : Dev nD) (k : Fin 5) : shared m κ ⊢ iprop(
    cellInv ER (talk (mine m)) (κ (sendCell k c)) (sendCell k c) ∗ cellInv ER (talk (mine m)) (κ (recvCell k c)) (recvCell k c)
      ∗ cellInv ER (talk (mine m)) (κ (barCell (partner k c))) (barCell (partner k c))
      ∗ cellInv ER (talk (mine m)) (κ (recvCell k (partner k c))) (recvCell k (partner k c)) ∗ reached ER (barCell (partner k c)) 0) := by
  iintro #H
  isplitr; · iapply (shared_inv m κ (send_mem k c)); iexact H
  isplitr; · iapply (shared_inv m κ (recv_mem k c)); iexact H
  isplitr; · iapply (shared_inv m κ (bar_mem (partner k c))); iexact H
  isplitr; · iapply (shared_inv m κ (recv_mem k (partner k c))); iexact H
  iapply (shared_bar m κ (partner k c)); iexact H

theorem shared_stages (κ : GSem nD τ sig → ℕ) (c : Dev nD) : shared m κ ⊢ bigSep Finset.univ fun k : Fin 5 => iprop(
    cellInv ER (talk (mine m)) (κ (sendCell k c)) (sendCell k c) ∗ cellInv ER (talk (mine m)) (κ (recvCell k c)) (recvCell k c)
      ∗ cellInv ER (talk (mine m)) (κ (barCell (partner k c))) (barCell (partner k c))
      ∗ cellInv ER (talk (mine m)) (κ (recvCell k (partner k c))) (recvCell k (partner k c)) ∗ reached ER (barCell (partner k c)) 0) :=
  (bigSep_of_persistent Finset.univ (shared m κ)).trans (bigSep_mono fun k _ => shared_stage m κ c k)

theorem ghost_of (κ : GSem nD τ sig → ℕ) (c : Dev nD) : iprop(shared m κ ∗ dealt c) ⊢ iprop(∃ K, ghost (mine m) K c) := by
  unfold dealt ghost invs
  iintro ⟨#HS, Ha, Hk⟩
  iexists κ
  isplitr
  · isplitr; · iapply (shared_inv m κ (bar_mem c)); iexact HS
    iapply (shared_stages m κ c)
    iexact HS
  isplitl [Ha]; · iexact Ha
  iexact Hk

omit [FloatOps F] in
theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ

omit [FloatOps F] in
/-- Devices and stages can be gone through in either order. -/
theorem stages_first (Φ : Dev nD → Fin 5 → sProp 𝕄) :
    (bigSep Finset.univ fun c : Dev nD => bigSep Finset.univ fun k : Fin 5 => Φ c k)
      = bigSep Finset.univ fun k : Fin 5 => bigSep Finset.univ fun c : Dev nD => Φ c k :=
  (bigSep_univ_prod (fun x : Dev nD × Fin 5 => Φ x.1 x.2)).symm.trans
    ((bigSep_univ_equiv (Equiv.prodComm (Fin 5) (Dev nD)) (fun x : Dev nD × Fin 5 => Φ x.1 x.2)).trans
      (bigSep_univ_prod (fun x : Fin 5 × Dev nD => Φ x.2 x.1)))

/-- The tokens, handed to those who pay: each stage's barrier and receive tokens go to the partner. -/
theorem tokens_dealt : bigSep tokens (fun x => (dutyTok ER x.1 x.2.1 x.2.2 : sProp 𝕄))
    = bigSep Finset.univ fun c : Dev nD => bigSep Finset.univ fun k : Fin 5 => stageToks k c := by
  have e : bigSep tokens (fun x => (dutyTok ER x.1 x.2.1 x.2.2 : sProp 𝕄))
      = bigSep Finset.univ fun c : Dev nD => bigSep Finset.univ fun k : Fin 5 =>
          iprop(dutyTok ER (barCell c) 0 k ∗ dutyTok ER (sendCell k c) 0 0 ∗ dutyTok ER (recvCell k c) 0 0) := by
    unfold tokens
    rw [bigSep_map, bigSep_univ_prod]
    refine bigSep_congr fun c _ => ?_
    rw [bigSep_univ_prod]
    refine bigSep_congr fun k _ => ?_
    rw [bigSep_three]
    rfl
  rw [e, stages_first]
  refine Eq.trans ?_ (stages_first _).symm
  refine bigSep_congr fun k _ => ?_
  unfold stageToks
  rw [bigSep_sep', bigSep_sep', bigSep_sep', bigSep_sep',
    bigSep_univ_equiv (swap k) (fun c : Dev nD => (dutyTok ER (barCell c) 0 k : sProp 𝕄)),
    bigSep_univ_equiv (swap k) (fun c : Dev nD => (dutyTok ER (recvCell k c) 0 0 : sProp 𝕄))]
  rfl

theorem opens_dealt : bigSep owns' (fun g => (openTok ER g : sProp 𝕄))
    = bigSep Finset.univ fun c : Dev nD => bigSep Finset.univ fun k : Fin 5 => iprop(openTok ER (sendCell k c) ∗ openTok ER (recvCell k c)) := by
  rw [bigSep_map, bigSep_univ_prod]
  refine bigSep_congr fun c _ => ?_
  rw [bigSep_univ_prod]
  refine bigSep_congr fun k _ => ?_
  rw [show (Finset.univ : Finset Bool) = {false, true} from by decide, bigSep_insert (by decide), bigSep_singleton]
  rfl

/-! ## The credit -/

theorem owes_at (d : Dev nD) (g : GSem nD τ sig) :
    O₀ d g () = (∑ k : Fin 5, tallyAt (barCell (partner k d)) () 1 g ()) + ∑ k : Fin 5, tallyAt (recvCell k (partner k d)) () (amt k) g () := by
  have e : O₀ d g () = 0 + payment d 0 g () + payment d 1 g () + payment d 2 g () + payment d 3 g () + payment d 4 g ()
      + payment d 5 g () + payment d 6 g () + payment d 7 g () + payment d 8 g () + payment d 9 g () := rfl
  have b (n : ℕ) (k : Fin 5) (h : ¬ n < 5) (hk : stageOf (11 - n) = k) : payment d n = tallyAt (barCell (partner k d)) () 1 := by
    unfold payment; rw [if_neg h, hk]
  have r (n : ℕ) (k : Fin 5) (h : n < 5) (hk : stageOf (6 - n) = k) : payment d n = tallyAt (recvCell k (partner k d)) () (amt k) := by
    unfold payment; rw [if_pos h, hk]
  rw [e, r 0 4 (by decide) (by decide), r 1 3 (by decide) (by decide), r 2 2 (by decide) (by decide), r 3 1 (by decide) (by decide),
    r 4 0 (by decide) (by decide), b 5 4 (by decide) (by decide), b 6 3 (by decide) (by decide), b 7 2 (by decide) (by decide),
    b 8 1 (by decide) (by decide), b 9 0 (by decide) (by decide), Fin.sum_univ_five, Fin.sum_univ_five]
  omega

theorem partner_iff (k : Fin 5) (c d : Dev nD) : c = partner k d ↔ d = partner k c :=
  ⟨fun h => by rw [h, partner_partner], fun h => by rw [h, partner_partner]⟩

theorem core_inj {c d : Dev nD} {s t : SemLoc sig} (h : ((c : Thread nD τ), s) = ((d : Thread nD τ), t)) : c = d :=
  congrArg (fun g : GSem nD τ sig => g.1.1) h

theorem owed_bar (c : Dev nD) : ∑ d : Dev nD, O₀ d (barCell c) () = 5 := by
  have e (d : Dev nD) : O₀ d (barCell c) () = ∑ k : Fin 5, if d = partner k c then 1 else 0 := by
    rw [owes_at, Finset.sum_eq_zero (s := Finset.univ) (f := fun k : Fin 5 => tallyAt (recvCell k (partner k d)) () (amt k) (barCell c) ())
      fun k _ => by rw [tallyAt_apply, if_neg fun h => by cases congrArg Prod.snd h.1], Nat.add_zero]
    refine Finset.sum_congr rfl fun k _ => ?_
    rw [tallyAt_apply]
    by_cases h : d = partner k c
    · rw [if_pos ⟨by rw [h, partner_partner], rfl⟩, if_pos h]
    · rw [if_neg fun h' => h ((partner_iff k c d).mp (core_inj h'.1)), if_neg h]
  rw [Finset.sum_congr rfl fun d _ => e d, Finset.sum_comm, Finset.sum_congr rfl fun k _ => Finset.sum_ite_eq' Finset.univ (partner k c) fun _ => 1,
    Fin.sum_univ_five]
  simp only [Finset.mem_univ, if_true]

theorem owed_recv (k : Fin 5) (c : Dev nD) : ∑ d : Dev nD, O₀ d (recvCell k c) () = amt k := by
  have e (d : Dev nD) : O₀ d (recvCell k c) () = if d = partner k c then amt k else 0 := by
    rw [owes_at, Finset.sum_eq_zero (s := Finset.univ) (f := fun j : Fin 5 => tallyAt (barCell (partner j d)) () 1 (recvCell k c) ())
      fun j _ => by rw [tallyAt_apply, if_neg fun h => by cases congrArg Prod.snd h.1], Nat.zero_add,
      Finset.sum_eq_single k (fun j _ hj => by
        rw [tallyAt_apply, if_neg fun h => hj ((Prod.ext_iff.mp (osem_inj (show osem (k, true) = osem (j, true) from congrArg Prod.snd h.1))).1.symm)])
        (fun h => absurd (Finset.mem_univ k) h), tallyAt_apply]
    by_cases h : d = partner k c
    · rw [if_pos ⟨by rw [h, partner_partner], rfl⟩, if_pos h]
    · rw [if_neg fun h' => h ((partner_iff k c d).mp (core_inj h'.1)), if_neg h]
  rw [Finset.sum_congr rfl fun d _ => e d, Finset.sum_ite_eq' Finset.univ (partner k c) fun _ => amt k, if_pos (Finset.mem_univ _)]

theorem credit_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem credits_of (c : Dev nD) : (Pipeline.launchCred O₀ c : sProp 𝕄) ⊢ credits c := by
  unfold Pipeline.launchCred credits
  rw [bigSep_univ_at _ (SemLoc.reg barS), credit_at _ 5 (owed_bar c)]
  refine sep_mono_right ?_
  have hsub : (Finset.univ.map ⟨fun k : Fin 5 => osem (k, true), fun _ _ h => (Prod.ext_iff.mp (osem_inj h)).1⟩ : Finset (SemLoc sig))
      ⊆ Finset.univ.erase (SemLoc.reg barS) := fun s hs => by
    obtain ⟨k, -, rfl⟩ := Finset.mem_map.mp hs
    exact Finset.mem_erase.mpr ⟨(by decide : ∀ k : Fin 5, osem (k, true) ≠ .reg barS) k, Finset.mem_univ _⟩
  refine (bigSep_subset hsub).trans ?_
  rw [bigSep_map]
  refine Entails.of_eq (bigSep_congr fun k _ => ?_)
  rw [← credit_at _ (amt k) (owed_recv k c)]
  rfl

/-! ## The launch -/

theorem unscoped_sem (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) (Pipeline.ucRefs τ sig) (V0 m c) ∗ rest m 0 c)
abbrev Tₙ (c : Dev nD) : sProp 𝕄 := iprop(StableHlo.held (c : Thread nD τ) (Pipeline.ucRefs τ sig) (V15 m (left m) c) ∗ semVal (barCell c) 0)

/-- A device's launch holdings but for the exchange's. -/
def plain (c : Dev nD) : sProp 𝕄 :=
  iprop(StableHlo.held (c : Thread nD τ) (Pipeline.ucRefs τ sig) (V0 m c) ∗ credits c ∗ owes (c : Thread nD τ) (O₀ c) ∅ ∗ ∃ r, prngReg c r)

theorem T₀_of (κ : GSem nD τ sig → ℕ) (c : Dev nD) : iprop(shared m κ ∗ (dealt c ∗ plain m c)) ⊢ T₀ m c := by
  unfold plain T₀ rest bring
  iintro ⟨#HS, Hd, Hh, Hc, HO, Hp⟩
  isplitl [Hh]; · iexact Hh
  isplitr [HO]
  · isplitr [Hp]
    · isplitl [Hd]
      · iapply (ghost_of m κ c)
        isplitr; · iexact HS
        iexact Hd
      iexact Hc
    iexact Hp
  iexists ∅; iexact HO

theorem launched :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked c)) ∗ levAts L lv)
      ⊢ (|={Set.univ}=> bigSep Finset.univ (T₀ m) : sProp 𝕄) := by
  have each (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ parked c)
      ⊢ (iprop(plain m c ∗ (semVal (barCell c) 0 ∗ parked c)) : sProp 𝕄) := by
    rw [show unscopedBufs c (fun b => m ((c.tc : Thread nD τ).loc b)) = StableHlo.held (c : Thread nD τ) (Pipeline.ucRefs τ sig) (V0 m c)
        from Pipeline.unscopedBufs_held c (V0 m c), unscoped_sem]
    unfold plain
    iintro ⟨Hh, Hs, HO, Hc, Hp, HG⟩
    isplitl [Hh HO Hc Hp]
    · isplitl [Hh]; · iexact Hh
      isplitl [Hc]; · iapply (credits_of (F := F) c); iexact Hc
      isplitl [HO]; · iexact HO
      iexists (ρ c); iexact Hp
    isplitl [Hs]; · iexact Hs
    iexact HG
  have all : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked c))
      ⊢ (iprop(bigSep Finset.univ (plain m) ∗ bigSep bars (fun g => semVal g 0) ∗ BI.own (ER (launchOf bars owns' tokens))) : sProp 𝕄) := by
    have e : (bigSep Finset.univ fun c : Dev nD => iprop(plain m c ∗ (semVal (barCell c) 0 ∗ parked c)))
        = (iprop(bigSep Finset.univ (plain m) ∗ bigSep bars (fun g => semVal g 0) ∗ BI.own (ER (launchOf bars owns' tokens))) : sProp 𝕄) := by
      rw [bigSep_sep', bigSep_sep', parked_all, bigSep_map barAt]
      rfl
    rw [← e]
    exact bigSep_mono fun c _ => each c
  have deal : iprop(bigSep bars (fun g => atPos ER g 0 ∅ 0) ∗ bigSep owns' (fun g => openTok ER g)
      ∗ bigSep tokens (fun x => dutyTok ER x.1 x.2.1 x.2.2)) ⊢ (bigSep Finset.univ dealt : sProp 𝕄) := by
    refine Entails.of_eq ?_
    rw [tokens_dealt, opens_dealt, bigSep_map barAt, ← bigSep_sep', ← bigSep_sep']
    refine bigSep_congr fun c _ => ?_
    unfold dealt
    rw [bigSep_sep' Finset.univ (fun k : Fin 5 => (iprop(openTok ER (sendCell k c) ∗ openTok ER (recvCell k c)) : sProp 𝕄)) fun k => stageToks k c]
    rfl
  iintro ⟨H, -⟩
  ihave H := all $$ H
  icases H with ⟨HB, Hv, Hu⟩
  imod (Rounds.fund_launch ER (talk (mine m)) cells_disjoint (fun g _ h => h) tokens) $$ [Hv Hu] with ⟨%κ, -, #Hinv, #Hr, Hat, Hopen, Htok⟩
  · isplitl [Hv]; · iexact Hv
    iexact Hu
  imodintro
  iapply (bigSep_with_persistent (R := shared m κ) (Φ := fun c => iprop(dealt c ∗ plain m c)) fun c _ => T₀_of m κ c)
  isplitr
  · unfold shared
    isplitr; · iexact Hinv
    iexact Hr
  iapply (Entails.of_eq (bigSep_sep' Finset.univ dealt (plain m)).symm)
  isplitr [HB]
  · iapply deal
    isplitl [Hat]; · iexact Hat
    isplitl [Hopen]; · iexact Hopen
    iexact Htok
  · iexact HB

/-! ## The run -/

set_option backward.isDefEq.respectTransparency.types false in
set_option backward.proofsInPublic true in
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v116) = V15 m (left m) c main_v116)
    ∧ r.2.sem = fun _ => 0) :=
  Pipeline.θ_run_regions_kit_dev_sems (pcfgs (F := F)) adm (dats m) () cellOf_inj EP defs₀ 𝒱₀ L lv m ρ main
    (segs m (left m) 𝒱₀ L lv (rest m) () (dats m) (region m))
    (fun c Q => by
      rewrite [main_chain c, Pipeline.Seg.run_eq_chain,
        show (segs m (left m) 𝒱₀ L lv (rest m) () (dats m) (region m) c).map Pipeline.Seg.prog = [
          StableHlo.seq (hostOps0 c), StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()),
          StableHlo.seq hostOps1, StableHlo.seq hostOps1_1, StableHlo.seq hostOps1_2, StableHlo.seq hostOps1_3,
          StableHlo.seq hostOps1_4, StableHlo.seq hostOps1_5, StableHlo.seq hostOps1_6 ] from rfl]
      dsimp (config := { failIfUnchanged := false }) only
      exact .rfl)
    (fun c => by simp only [segs, Pipeline.Seg.pipes_host, Pipeline.Seg.pipes_region, Pipeline.Seg.pipes_nil]; decide)
    O₀ (fun g h => L_of_ne g h) parked (u₀ (F := F))
    (by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := fun c => ⟨.rfl, .rfl, .rfl, .rfl, .rfl, .rfl, .rfl, region_pre m c, region_post m c, .rfl, .rfl, .rfl, .rfl, .rfl, .rfl, by
      show iprop(StableHlo.held (c : Thread nD τ) (Pipeline.ucRefs τ sig) (V15 m (left m) c) ∗ (semVal (barCell c) 0 ∗ ∃ W, owes (c : Thread nD τ) (0 : CellTallies nD τ sig Unit) W)) ⊢ _
      unfold Tₙ
      iintro ⟨Hh, Hb, HO⟩
      isplitr [HO]
      · isplitl [Hh]; · iexact Hh
        iexact Hb
      iexact HO⟩)
    (hinit := launched m ρ)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
      ∧ s.mem ((c.tc : Thread nD τ).loc main_v116) = V15 m (left m) c main_v116) ∧ s.sem (barCell c) = 0)
    (hfin := fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (V15 m (left m) c) s') $$ [Hh HSI]
      · isplitl [Hh]; · iexact Hh
        iexact HSI
      icases Hr with ⟨%h, HSI⟩
      imodintro
      isplitr
      · ipureintro
        have at_ (r : Ref sig .tc) (hr : r.isScoped = false) := h (Proc.devRef .tc r) (Finset.mem_filter.mpr ⟨StableHlo.devRef_mem_tcRefs r, by simpa using hr⟩)
        exact ⟨⟨⟨(at_ main_arg0 rfl).trans (V15_main_arg0 m (left m) c), (at_ main_arg1 rfl).trans (V15_main_arg1 m (left m) c),
          (at_ main_arg2 rfl).trans (V15_main_arg2 m (left m) c), (at_ main_arg3 rfl).trans (V15_main_arg3 m (left m) c)⟩, at_ main_v116 rfl⟩, by simpa using hb⟩
      · iexact HSI)
    (hQ := fun s h hs => ⟨fun c => (h c).1, sem_eq_zero hs fun c sm hsm => by
      obtain rfl := (by decide : ∀ sm : SemLoc sig, sm.isScoped .tc = false → sm = .reg barS) sm hsm
      exact (h c).2⟩)

end Cert.Proof

end
-- ==== Proof.Frames.lean ====
/-
  The frames: the kernel at any float values, read at the words and at the extended reals, and the reference.
-/
module

public import proofs.«01_k».proof.Proof.Launch
public import proofs.«01_k».proof.Proof.Gen.Kernel
public import proofs.«01_k».proof.Proof.Gen.Kernel.Launch
public import proofs.«01_k».proof.Proof.Gen.KernelIdeal
public import proofs.«01_k».proof.Proof.Gen.ReferenceIdeal.Run
public import Idealize.ShloMosaic.PureOps.BitExact
public import Idealize.ShloMosaic.PureOps.Ideal
public import proofs.«01_k».proof.Defs

@[expose] public section

noncomputable section

namespace Cert.Proof

open Idealize.ShloMosaic Idealize.SL.Sem

/-- The two printings of the kernel have the same text, so the same bodies and the same @main. -/
theorem same_bodies : Cert.Kernel.defs (F := Bits) = Cert.KernelIdeal.defs (F := Bits) :=
  congrArg (fun d => Pipeline.defs (Cert.KernelIdeal.pcfgs (F := Bits)) d)
    (show Cert.Kernel.defs₀ (F := Bits) = Cert.KernelIdeal.defs₀ (F := Bits) from
      congrArg Defs.onTc (funext fun ℓ => funext fun x => match ℓ, x with | 0, (_, _) => rfl))

theorem same_main : Cert.Kernel.main (F := Bits) = Cert.KernelIdeal.main (F := Bits) := funext fun c =>
  (Cert.Kernel.Gen.main_chain (F := Bits) c).trans (Eq.trans (by rfl) (Cert.KernelIdeal.Gen.main_chain (F := Bits) c).symm)

/-- The kernel as compiled: it ends, its arguments are unchanged, every semaphore reads zero. -/
theorem frame_kernel : Cert.quiescent_Kernel := fun m ρ _ => by
  rw [same_bodies, same_main]
  exact (θ_run (Cert.KernelIdeal.defs (F := Bits)) _ _).mono (fun _ h => And.intro (fun c => (h.1 c).1) h.2) (run_main (F := Bits) m ρ)

/-- The same of the kernel over the extended reals. -/
theorem frame_ideal : Cert.quiescent_KernelIdeal := fun m ρ _ =>
  (θ_run Cert.KernelIdeal.defs _ _).mono (fun _ h => ⟨fun c => (h.1 c).1, h.2⟩) (run_main (F := Ideal) m ρ)

/-- The same of the reference, which has no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof

end
-- ==== Proof.Experts.lean ====
/-
  Which tokens are kept, in natural numbers: the expert of each token, a token's rank among the earlier tokens of its
  expert, and the place a kept token has among the rows its expert's device computes.
-/
module

public import proofs.«01_k».proof.Proof.Common
public import Idealize.ShloMosaic.Lib.Routing.OpsSet
public import Idealize.ShloMosaic.Lib.Routing.OpsOne
public import Idealize.ShloMosaic.Lib.Routing.OpsSearch
public import Idealize.ShloMosaic.Lib.Routing.Words
public import Idealize.ShloMosaic.Lib.ReduceAll
public import Idealize.ShloMosaic.Lib.WordCmp
public import Idealize.ShloMosaic.Lib.StackMember

@[expose] public section

noncomputable section

namespace Cert.Proof

open Idealize.ShloMosaic Idealize.ShloMosaic.ValueIdx Idealize.ShloMosaic.Routing

/-- The expert that token `i` names (0 from 1024 on, where there is no token). -/
def expert (r : IVec (shape2 1024 1) 32) (i : Nat) : Nat := if h : i < 1024 then (r (ix2 ⟨i, h⟩ (0 : Fin 1))).toNat else 0

theorem expert_word (r : IVec (shape2 1024 1) 32) (i : Fin 1024) : r (ix2 i (0 : Fin 1)) = BitVec.ofNat 32 (expert r i.val) := by
  rw [expert, dif_pos i.isLt, BitVec.ofNat_toNat, BitVec.setWidth_eq]

/-- How many tokens before token `i` name its expert. -/
abbrev rank (e : Nat → Nat) (i : Nat) : Nat := Nat.count (fun j => e j = e i) i

theorem rank_le (e : Nat → Nat) (i : Nat) : rank e i ≤ i := Nat.count_le _

theorem rank_lt {e : Nat → Nat} {i j : Nat} (h : i < j) (he : e i = e j) : rank e i < rank e j := by
  have h1 : rank e i < Nat.count (fun l => e l = e i) j := Nat.count_strict_mono (p := fun l => e l = e i) rfl h
  rw [he] at h1
  simpa only [rank, he] using h1

/-- Two tokens of one expert and of one rank are the same. -/
theorem rank_inj {e : Nat → Nat} {i j : Nat} (he : e i = e j) (hr : rank e i = rank e j) : i = j := by
  rcases Nat.lt_trichotomy i j with h | h | h
  · have := rank_lt h he; omega
  · exact h
  · have := rank_lt h he.symm; omega

/-- Token `i` is kept and its expert is one of device `c`'s four. -/
abbrev Here (e : Nat → Nat) (c i : Nat) : Prop := rank e i < 6 ∧ e i / 4 = c

/-- The row of device `c`'s 24 at which token `i` is worked on, 24 (no row) if it is not worked on there. -/
def slot (e : Nat → Nat) (c i : Nat) : Nat := if Here e c i then e i % 4 * 6 + rank e i else 24

theorem slot_le (e : Nat → Nat) (c i : Nat) : slot e c i ≤ 24 := by
  unfold slot
  split <;> omega

/-- A row holds at most one token. -/
theorem slot_inj {e : Nat → Nat} {c i j : Nat} (hi : Here e c i) (h : slot e c j = slot e c i) : j = i := by
  unfold slot at h
  rw [if_pos hi] at h
  have h1 := hi.1
  have h2 := hi.2
  by_cases hj : Here e c j
  · rw [if_pos hj] at h
    have h3 := hj.1
    have h4 := hj.2
    have he : e j = e i := by omega
    exact rank_inj he (by omega)
  · rw [if_neg hj] at h
    omega

end Cert.Proof

end
-- ==== Proof.Reads.lean ====
/-
  The host operations that move entries, read at one index: the pick of one column per row, the scatter of tokens to
  rows, the pick of one matrix per token, the product of a token's row with its matrix, and `any` over the experts.
-/
module

public import proofs.«01_k».proof.Proof.Experts
public import proofs.«01_k».proof.Proof.Gen.ReferenceIdeal

@[expose] public section

noncomputable section

namespace Cert.Proof

open Idealize.ShloMosaic Idealize.ShloMosaic.ValueIdx Idealize.ShloMosaic.Routing Idealize.ShloMosaic.WordCmp

/-- Token `i`'s row times column `h` of matrix `g`. -/
def product {n : Nat} (x : FVec Ideal (shape2 1024 512) .bf16) (w : FVec Ideal (shape3 n 512 1024) .bf16) (i : Fin 1024) (g : Fin n) (h : Fin 1024) : EReal :=
  ∑ k : Fin 512, x (ix2 i k) * w (ix3 g k h)

/-- A sum over the first tokens of ones for those with a property counts them. -/
theorem word_of_count (p : Nat → Prop) [DecidablePred p] (n : Nat) :
    BitVec.ofNat 32 ((List.range n).map fun i => if p i then 1 else 0).sum = BitVec.ofNat 32 (Nat.count p n) := by
  rw [sum_map_ite]

/-- An index word that is not negative is taken as it is. -/
theorem wrap_word {s : Shape} (x y z : IVec s 32) (i : s.Idx) {k : Nat} (hk : k < 2 ^ 31) (hx : x i = BitVec.ofNat 32 k) (hz : z i = 0#32) :
    select (cmpi .slt x z) y x i = BitVec.ofNat 32 k := by
  rw [select_at, cmpi_at, hx, hz, show (0#32 : BitVec 32) = BitVec.ofNat 32 0 from rfl, cmpi_slt_ofNat (w := 32) hk (by decide), select_decide,
    if_neg (Nat.not_lt_zero k)]

/-- Whether an expert is one of a device's four, as the program decides it. -/
theorem in_four : ∀ (x : Fin 128) (c : Fin 32),
    IntOp.andi (IntOp.cmpi .sge (BitVec.ofNat 32 x.val - BitVec.ofNat 32 c.val * 4#32) 0#32)
      (IntOp.cmpi .slt (BitVec.ofNat 32 x.val - BitVec.ofNat 32 c.val * 4#32) 4#32) = BitVec.ofBool (decide (x.val / 4 = c.val)) := by
  decide +kernel

/-- Reshaping `[n, m]` to `[a, b, m]` reads row `i * b + j` at `(i, j, l)`. -/
theorem cast_rows {α : Type} {n m a b : Nat} (x : (shape2 n m).Idx → α) (h : (shape2 n m).ShapeCasts (shape3 a b m)) (i : Fin a) (j : Fin b) (l : Fin m)
    (p : Fin n) (hp : p.val = i.val * b + j.val) : shapeCast (shape3 a b m) x h (ix3 i j l) = x (ix2 p l) := by
  refine shapeCast_apply x h _ _ ?_
  rw [Shape.rowMajor_val_three, Shape.rowMajor_val_two]
  show p.val * m + l.val = (i.val * b + j.val) * m + l.val
  rw [hp]

/-- Reshaping `[a, b, m]` to `[n, m]` reads `(i, j, l)` at row `i * b + j`. -/
theorem cast_planes {α : Type} {n m a b : Nat} (x : (shape3 a b m).Idx → α) (h : (shape3 a b m).ShapeCasts (shape2 n m)) (i : Fin a) (j : Fin b) (l : Fin m)
    (p : Fin n) (hp : p.val = i.val * b + j.val) : shapeCast (shape2 n m) x h (ix2 p l) = x (ix3 i j l) := by
  refine shapeCast_apply x h _ _ ?_
  rw [Shape.rowMajor_val_three, Shape.rowMajor_val_two]
  show (i.val * b + j.val) * m + l.val = p.val * m + l.val
  rw [hp]

/-- Reshaping `[n, 1]` to `[n, 1, 1]` reads `(i, 0)` at `(i, 0, 0)`. -/
theorem cast_lanes {α : Type} {n : Nat} (x : (shape2 n 1).Idx → α) (h : (shape2 n 1).ShapeCasts (shape3 n 1 1)) (i : Fin n) (j l : Fin 1) :
    shapeCast (shape3 n 1 1) x h (ix3 i j l) = x (ix2 i (0 : Fin 1)) := by
  refine shapeCast_apply x h _ _ ?_
  rw [Shape.rowMajor_val_three, Shape.rowMajor_val_two]
  show i.val * 1 + 0 = (i.val * 1 + j.val) * 1 + l.val
  have := j.isLt
  have := l.isLt
  omega

section Pick
open Cert.KernelIdeal Cert.KernelIdeal.Facts₀ Cert.KernelIdeal.Facts
variable [Cert.KernelIdeal.Facts]

/-- One column per row: where the index array holds `k` at row `i`, the result's entry there is entry `(i, k)`. -/
theorem pick_column {α : Type} (x : S1024x128.Idx → α) (idx : IVec S1024x1x1 32) (i : Fin 1024) (k : Fin 128)
    (h : idx (ix3 i (0 : Fin 1) (0 : Fin 1)) = BitVec.ofNat 32 k.val) :
    Host.gather gather_S1024x128_S1024x1x1_S1024x1_n_1_0_0_1_2_11 x idx (ix2 i (0 : Fin 1)) = x (ix2 i k) := by
  let d := gather_S1024x128_S1024x1x1_S1024x1_n_1_0_0_1_2_11
  unfold Host.gather
  refine congrArg x (funext fun a => Fin.ext ?_)
  match a with
  | ⟨0, _⟩ =>
    show d.start (ix2 i 0) idx 0 + d.batchCoord (ix2 i 0) 0 + d.offCoord (ix2 i 0) 0 = i.val
    rw [d.start_batching _ _ 0 (List.mem_singleton.2 rfl), d.offCoord_eq_zero _ 0 fun h => ((d.mem_sKept 0).1 h).2 (List.mem_singleton.2 rfl)]
    show 0 + d.batchCoord (ix2 i 0) 0 + 0 = i.val
    rw [Nat.zero_add, Nat.add_zero]
    unfold GatherDims.batchCoord
    rw [dif_pos (show (0 : Fin 2) ∈ d.operandBatchingDims from List.mem_singleton.2 rfl)]
    rfl
  | ⟨1, _⟩ =>
    show d.start (ix2 i 0) idx 1 + d.batchCoord (ix2 i 0) 1 + d.offCoord (ix2 i 0) 1 = k.val
    rw [d.batchCoord_eq_zero _ 1 (show (1 : Fin 2) ∉ [(0 : Fin 2)] by decide),
      d.offCoord_eq_zero _ 1 fun h => ((d.mem_sKept 1).1 h).1 (List.mem_singleton.2 rfl)]
    unfold GatherDims.start
    rw [dif_pos (show (1 : Fin 2) ∈ d.startIndexMap from List.mem_singleton.2 rfl)]
    have e : d.siIdx (ix2 i (0 : Fin 1)) ⟨d.startIndexMap.idxOf (1 : Fin 2), List.idxOf_lt_length_iff.2 (List.mem_singleton.2 rfl)⟩
        = ix3 i (0 : Fin 1) (0 : Fin 1) := by
      funext b
      match b with
      | ⟨0, _⟩ => rfl
      | ⟨1, _⟩ => rfl
      | ⟨2, _⟩ => rfl
    rw [e, h, toInt_ofNat_of_lt (w := 32) (by have := k.isLt; omega), Int.toNat_natCast]
    show min k.val (128 - 1) + 0 + 0 = k.val
    have := k.isLt
    omega

/-- Update `i` of the scatter lands at row `s` exactly when its index word is `s`. -/
theorem lands (idx : IVec S1024x1 32) (i : Fin 1024) (s : Fin 25) :
    scatter_S25_S1024x1_S1024_n_0_0_1.resultIdx? (ix1 i) idx = some (ix1 s) ↔ (idx (ix2 i (0 : Fin 1))).toInt = (s.val : Int) := by
  let d := scatter_S25_S1024x1_S1024_n_0_0_1
  rw [resultIdx?_eq_some]
  have e : d.start (ix1 i) idx 0 = (idx (ix2 i (0 : Fin 1))).toInt := by
    unfold ScatterDims.start
    rw [dif_pos (show (0 : Fin 1) ∈ d.scatterDimsToOperandDims from List.mem_singleton.2 rfl)]
    refine congrArg (fun q => (idx q).toInt) (funext fun b => ?_)
    match b with
    | ⟨0, _⟩ => rfl
    | ⟨1, _⟩ => rfl
  have e' : d.window (ix1 i) 0 = 0 := rfl
  constructor
  · intro h
    have := h 0
    rw [← e, ← this]
    show _ = d.start (ix1 i) idx 0 + (d.window (ix1 i) 0 : Int)
    rw [e']; exact (Int.add_zero _).symm
  · intro h a
    match a with
    | ⟨0, _⟩ =>
      show d.start (ix1 i) idx 0 + (d.window (ix1 i) 0 : Int) = (s.val : Int)
      rw [e, e', h]; exact Int.add_zero _

/-- The scatter at row `s`, to which token `i` and no other goes: what token `i` brings. -/
theorem scatter_row {α : Type} (x0 : S25.Idx → α) (idx : IVec S1024x1 32) (upd : S1024.Idx → α) (p : Nat → Nat)
    (hp : ∀ j : Fin 1024, idx (ix2 j (0 : Fin 1)) = BitVec.ofNat 32 (p j.val)) (hp' : ∀ j, p j ≤ 24) (i : Fin 1024) (s : Fin 25)
    (hi : p i.val = s.val) (hu : ∀ j : Fin 1024, p j.val = s.val → upd (ix1 j) = upd (ix1 i)) :
    Host.scatter scatter_S25_S1024x1_S1024_n_0_0_1 (fun _ b => b) x0 idx upd (ix1 s) = upd (ix1 i) := by
  have e : ∀ j : Fin 1024, (idx (ix2 j (0 : Fin 1))).toInt = (p j.val : Int) := fun j => by
    rw [hp, toInt_ofNat_of_lt (w := 32) (by have := hp' j.val; omega)]
  refine scatter_set_hit _ x0 idx upd (ix1 s) _ (fun k hk => ?_) (ix1 i) ((lands idx i s).2 (by rw [e, hi]))
  obtain ⟨j, rfl⟩ : ∃ j : Fin 1024, k = ix1 j := ⟨k 0, eq_ix1 k⟩
  have := (lands idx j s).1 hk
  rw [e] at this
  exact hu j (by exact_mod_cast this)

end Pick

section Matrix
open Cert.ReferenceIdeal Cert.ReferenceIdeal.Facts₀ Cert.ReferenceIdeal.Facts
variable [Cert.ReferenceIdeal.Facts]

/-- One matrix per token: where the index array holds `k` at token `i`, the result's matrix there is matrix `k`. -/
theorem pick_matrix {α : Type} (x : S128x512x1024.Idx → α) (idx : IVec S1024x1 32) (i : Fin 1024) (a : Fin 512) (b : Fin 1024) (k : Fin 128)
    (h : idx (ix2 i (0 : Fin 1)) = BitVec.ofNat 32 k.val) :
    Host.gather gather_S128x512x1024_S1024x1_S1024x512x1024_12_0_n_n_0_1_15121024 x idx (ix3 i a b) = x (ix3 k a b) := by
  let d := gather_S128x512x1024_S1024x1_S1024x512x1024_12_0_n_n_0_1_15121024
  unfold Host.gather
  refine congrArg x (funext fun c => Fin.ext ?_)
  match c with
  | ⟨0, _⟩ =>
    show d.start (ix3 i a b) idx 0 + d.batchCoord (ix3 i a b) 0 + d.offCoord (ix3 i a b) 0 = k.val
    rw [d.batchCoord_eq_zero _ 0 List.not_mem_nil, d.offCoord_eq_zero _ 0 fun h => ((d.mem_sKept 0).1 h).1 (List.mem_singleton.2 rfl)]
    unfold GatherDims.start
    rw [dif_pos (show (0 : Fin 3) ∈ d.startIndexMap from List.mem_singleton.2 rfl)]
    have e : d.siIdx (ix3 i a b) ⟨d.startIndexMap.idxOf (0 : Fin 3), List.idxOf_lt_length_iff.2 (List.mem_singleton.2 rfl)⟩
        = ix2 i (0 : Fin 1) := by
      funext b'
      match b' with
      | ⟨0, _⟩ => rfl
      | ⟨1, _⟩ => rfl
    rw [e, h, toInt_ofNat_of_lt (w := 32) (by have := k.isLt; omega), Int.toNat_natCast]
    show min k.val (128 - 1) + 0 + 0 = k.val
    have := k.isLt
    omega
  | ⟨1, _⟩ =>
    show d.start (ix3 i a b) idx 1 + d.batchCoord (ix3 i a b) 1 + d.offCoord (ix3 i a b) 1 = a.val
    rw [d.batchCoord_eq_zero _ 1 List.not_mem_nil]
    have e : d.start (ix3 i a b) idx 1 = 0 := by
      unfold GatherDims.start
      exact dif_neg (show (1 : Fin 3) ∉ [(0 : Fin 3)] by decide)
    have e' : d.offCoord (ix3 i a b) 1 = a.val := by
      unfold GatherDims.offCoord
      rw [dif_pos ((d.mem_sKept 1).2 ⟨show (1 : Fin 3) ∉ [(0 : Fin 3)] by decide, List.not_mem_nil⟩)]
      rfl
    rw [e, e', Nat.add_zero, Nat.zero_add]
  | ⟨2, _⟩ =>
    show d.start (ix3 i a b) idx 2 + d.batchCoord (ix3 i a b) 2 + d.offCoord (ix3 i a b) 2 = b.val
    rw [d.batchCoord_eq_zero _ 2 List.not_mem_nil]
    have e : d.start (ix3 i a b) idx 2 = 0 := by
      unfold GatherDims.start
      exact dif_neg (show (2 : Fin 3) ∉ [(0 : Fin 3)] by decide)
    have e' : d.offCoord (ix3 i a b) 2 = b.val := by
      unfold GatherDims.offCoord
      rw [dif_pos ((d.mem_sKept 2).2 ⟨show (2 : Fin 3) ∉ [(0 : Fin 3)] by decide, List.not_mem_nil⟩)]
      rfl
    rw [e, e', Nat.add_zero, Nat.zero_add]

/-- The batched product at token `i` and column `h`: token `i`'s row times its matrix's column. -/
theorem row_times_matrix {φ₁ φ₂ : FTy} (A : FVec Ideal S1024x512 φ₁) (B : FVec Ideal S1024x512x1024 φ₂) (i : Fin 1024) (h : Fin 1024) :
    Host.dotGeneral dot_S1024x512_S1024x512x1024_S1024x1024_1_1_n_2_0_0 none A B (ix2 i h) = ∑ k : Fin 512, A (ix2 i k) * B (ix3 i k h) := by
  let d := dot_S1024x512_S1024x512x1024_S1024x1024_1_1_n_2_0_0
  show FloatOps.dotGeneral d none _ A B (ix2 i h) = _
  rw [Ideal.dotGeneral_apply, ← Equiv.sum_comp (contrEquiv1 d 512 rfl rfl).symm]
  refine Finset.sum_congr rfl fun k _ => ?_
  have ek := contrEquiv1_symm_val d 512 rfl rfl k
  have el : d.lhsIdx (ix2 i h) ((contrEquiv1 d 512 rfl rfl).symm k) = ix2 i k := by
    funext a
    match a with
    | ⟨0, _⟩ => rfl
    | ⟨1, _⟩ => exact Fin.ext ek
  have er : d.rhsIdx (ix2 i h) ((contrEquiv1 d 512 rfl rfl).symm k) = ix3 i k h := by
    funext a
    match a with
    | ⟨0, _⟩ => rfl
    | ⟨1, _⟩ => exact Fin.ext ek
    | ⟨2, _⟩ => rfl
  rw [el, er]

theorem foldl_or {ι : Type} (f : ι → BitVec 1) (l : List ι) (b : BitVec 1) :
    l.foldl (fun r n => IntOp.ori r (f n)) b = 1#1 ↔ b = 1#1 ∨ ∃ n ∈ l, f n = 1#1 := by
  induction l generalizing b with
  | nil => simp
  | cons n l ih =>
    have e : IntOp.ori b (f n) = 1#1 ↔ b = 1#1 ∨ f n = 1#1 := by
      generalize f n = x
      revert b x
      decide
    rw [List.foldl_cons, ih, e, List.exists_mem_cons_iff, or_assoc]

/-- `any` over a row's columns. -/
theorem any_of_row (x : IVec S1024x128 1) (i : Fin 1024) :
    Host.reduce IntOp.ori x (constantI S_ 1 0#1) reducesTo_S1024x128_S1024_d1 h_S_ (ix1 i) = 1#1 ↔ ∃ k : Fin 128, x (ix2 i k) = 1#1 := by
  rw [Host.reduce_eq_foldl, foldl_or]
  constructor
  · rintro (h | ⟨n, hn, h⟩)
    · exact absurd h (by decide)
    · obtain ⟨a, b, rfl⟩ : ∃ (a : Fin 1024) (b : Fin 128), n = ix2 a b := ⟨n 0, n 1, eq_ix2 n⟩
      have e := of_decide_eq_true (List.mem_filter.1 hn).2
      have e' : a = i := congrFun e 0
      exact ⟨b, e' ▸ h⟩
  · rintro ⟨k, h⟩
    refine Or.inr ⟨ix2 i k, List.mem_filter.2 ⟨List.mem_map.2 ⟨_, List.mem_finRange _, Equiv.symm_apply_apply _ _⟩, decide_eq_true ?_⟩, h⟩
    funext a
    match a with
    | ⟨0, _⟩ => rfl

end Matrix

end Cert.Proof

end
-- ==== Proof.KernelSteps.lean ====
/-
  The kernel program's host operations up to the gathering kernel, one list after another, read at an index: what each
  device computes from the expert of every token.
-/
module

public import proofs.«01_k».proof.Proof.Reads
public import proofs.«01_k».proof.Proof.Region

@[expose] public section

set_option maxRecDepth 16384

noncomputable section

namespace Cert.Proof

open Cert.KernelIdeal Cert.KernelIdeal.Gen

open Idealize.ShloMosaic Idealize.ShloMosaic.TcCoe Idealize.ShloMosaic.ValueIdx Idealize.ShloMosaic.Routing Idealize.ShloMosaic.WordCmp
  Idealize.ShloMosaic.StableHlo

variable {F : FTy → Type} [FloatOps F] (X : Valuation τ sig (Elt F))

theorem device_word (c : Dev nD) : IntOp.remui .host (IntOp.divui .host (Dev.word c) 1#32) 32#32 = BitVec.ofNat 32 c.val := by
  unfold IntOp.divui IntOp.remui
  rw [if_neg (by decide), if_neg (by decide)]
  revert c
  decide +kernel

theorem step1_v4 (c : Dev nD) : (StableHlo.after (hostOps0 c) X main_v4 : IVec S_ 32) ix0 = BitVec.ofNat 32 c.val := by
  simp only [hostOps0]
  after_results_simp
  exact device_word c

section Step1
variable (c : Dev nD) {e : Nat → Nat} (he : ∀ i, e i < 128)
  (h2 : ∀ i : Fin 1024, (X main_arg2 : IVec S1024x1 32) (ix2 i (0 : Fin 1)) = BitVec.ofNat 32 (e i.val))
include h2

theorem step1_v5 (i : Fin 1024) : (StableHlo.after (hostOps0 c) X main_v5 : IVec S1024 32) (ix1 i) = BitVec.ofNat 32 (e i.val) := by
  simp only [hostOps0]
  after_results_simp
  exact (cast21 _ _ i (0 : Fin 1) i (by omega)).trans (h2 i)

include he

theorem step1_v12 (i : Fin 1024) (k : Fin 128) :
    (StableHlo.after (hostOps0 c) X main_v12 : IVec S1024x128 32) (ix2 i k) = BitVec.ofNat 32 (if e i.val = k.val then 1 else 0) := by
  have h1 := he i.val
  have h3 := k.isLt
  simp only [hostOps0]
  after_results_simp
  rw [extui_apply, cmpi_at, bcRows, bcCols, iota1_ap]
  erw [cast21 _ _ i (0 : Fin 1) i (by omega), h2]
  rw [cmpi_eq_ofNat (by omega) (by omega), setWidth_ofBool]

end Step1

theorem step2_v13 {e : Nat → Nat}
    (h12 : ∀ (i : Fin 1024) (k : Fin 128), (X main_v12 : IVec S1024x128 32) (ix2 i k) = BitVec.ofNat 32 (if e i.val = k.val then 1 else 0))
    (i : Fin 1024) (k : Fin 128) :
    (StableHlo.after hostOps0_1 X main_v13 : IVec S1024x128 32) (ix2 i k) = BitVec.ofNat 32 (Nat.count (fun j => e j = k.val) (i.val + 1)) := by
  simp only [hostOps0_1, StableHlo.TRef.binary, TRef.nullary, TRef.ternary, TRef.unary, TRef.reshape, TRef.toBuf, TRef.ofBuf, cast_eq]
  after_results_simp
  refine (cumsum_rows (R := 1024) (Rm1 := 1023) rfl _ (fun i k => if e i = k then 1 else 0) h12 _ rfl _ _ i k).trans ?_
  exact word_of_count (fun j => e j = k.val) _

theorem step3_v14 {e : Nat → Nat} (h5 : ∀ i : Fin 1024, (X main_v5 : IVec S1024 32) (ix1 i) = BitVec.ofNat 32 (e i.val)) (i : Fin 1024) :
    (StableHlo.after hostOps0_2 X main_v14 : IVec S1024x1 32) (ix2 i (0 : Fin 1)) = BitVec.ofNat 32 (e i.val) := by
  simp only [hostOps0_2]
  after_results_simp
  exact (bcCol _ _ i).trans (h5 i)

/-- The column index of every token, as `take_along_axis` forms it. -/
abbrev columns (y : IVec S1024x1 32) : IVec S1024x1x1 32 :=
  shapeCast S1024x1x1 (select (cmpi .slt y (broadcastInDim S1024x1 ![] bcast_S_S1024x1 (constantI S_ 32 0#32)))
    (addi y (broadcastInDim S1024x1 ![] bcast_S_S1024x1 (constantI S_ 32 128#32))) y) shapeCasts_S1024x1_S1024x1x1

theorem columns_word (y : IVec S1024x1 32) {e : Nat → Nat} (he : ∀ i, e i < 128)
    (h : ∀ i : Fin 1024, y (ix2 i (0 : Fin 1)) = BitVec.ofNat 32 (e i.val)) (j : Fin 1024) (a b : Fin 1) :
    columns y (ix3 j a b) = BitVec.ofNat 32 (e j.val) := by
  have h1 := he j.val
  unfold columns
  rw [cast_lanes]
  exact wrap_word _ _ _ _ (by omega) (h j) (bc0 _ _ _)

/-- Each token's count at its own expert, as `take_along_axis` picks it. -/
theorem pick_count (x : IVec S1024x128 32) (y : IVec S1024x1 32) (z : IVec S1024x1 32) {e : Nat → Nat} (he : ∀ i, e i < 128)
    (hx : ∀ (i : Fin 1024) (k : Fin 128), x (ix2 i k) = BitVec.ofNat 32 (Nat.count (fun j => e j = k.val) (i.val + 1)))
    (hy : ∀ i : Fin 1024, y (ix2 i (0 : Fin 1)) = BitVec.ofNat 32 (e i.val)) (i : Fin 1024) :
    select (Host.reduce IntOp.andi
        (andi (cmpi .sge (columns y) (broadcastInDim S1024x1x1 ![] bcast_S_S1024x1x1 (constantI S_ 32 0#32)))
          (cmpi .sle (columns y) (broadcastInDim S1024x1x1 ![0, 1, 2] bcast_S1x1x1_S1024x1x1_0_1_2
            (broadcastInDim S1x1x1 ![2] bcast_S1_S1x1x1_2 (constantI S1 32 127#32)))))
        (constantI S_ 1 1#1) reducesTo_S1024x1x1_S1024x1_d2 h_S_)
      (Host.gather gather_S1024x128_S1024x1x1_S1024x1_n_1_0_0_1_2_11 x (columns y)) z (ix2 i (0 : Fin 1)) = BitVec.ofNat 32 (rank e i.val + 1) := by
  have h1 := he i.val
  rw [select_at, Host.reduce_andi_one _ _ _ _ _ rfl fun q => ?_, WordCmp.select_one, pick_column _ _ i ⟨e i.val, h1⟩ (columns_word y he hy i 0 0), hx]
  · exact congrArg (BitVec.ofNat 32) ((Nat.count_succ _ _).trans (by rw [if_pos rfl]))
  · obtain ⟨j, a, b, rfl⟩ : ∃ (j : Fin 1024) (a b : Fin 1), q = ix3 j a b := ⟨q 0, q 1, q 2, eq_ix3 q⟩
    have h2 := he j.val
    have e1 : (broadcastInDim S1024x1x1 ![0, 1, 2] bcast_S1x1x1_S1024x1x1_0_1_2
        (broadcastInDim S1x1x1 ![2] bcast_S1_S1x1x1_2 (constantI S1 32 127#32))) (ix3 j a b) = BitVec.ofNat 32 127 := rfl
    rw [andi_at, cmpi_at, cmpi_at, e1, bc0, columns_word y he hy, constantI_at, show (0#32 : BitVec 32) = BitVec.ofNat 32 0 from rfl,
      cmpi_sge_ofNat (by omega) (by omega), cmpi_sle_ofNat (by omega) (by omega), decide_eq_true (Nat.zero_le _),
      decide_eq_true (show e j.val ≤ 127 by omega)]
    rfl

theorem step4_v15 {e : Nat → Nat} (he : ∀ i, e i < 128)
    (h13 : ∀ (i : Fin 1024) (k : Fin 128), (X main_v13 : IVec S1024x128 32) (ix2 i k) = BitVec.ofNat 32 (Nat.count (fun j => e j = k.val) (i.val + 1)))
    (h14 : ∀ i : Fin 1024, (X main_v14 : IVec S1024x1 32) (ix2 i (0 : Fin 1)) = BitVec.ofNat 32 (e i.val)) (i : Fin 1024) :
    (StableHlo.after hostOps0_3 X main_v15 : IVec S1024x1 32) (ix2 i (0 : Fin 1)) = BitVec.ofNat 32 (rank e i.val + 1) := by
  simp only [hostOps0_3, StableHlo.TRef.binary, TRef.nullary, TRef.ternary, TRef.unary, TRef.reshape, TRef.toBuf, TRef.ofBuf, cast_eq]
  after_results_simp
  exact pick_count _ _ _ he h13 h14 i

/-- Tokens' ranks from their counts, and whether they are below 6. -/
theorem rank_word (x : IVec S1024x1 32) {e : Nat → Nat} (h : ∀ i : Fin 1024, x (ix2 i (0 : Fin 1)) = BitVec.ofNat 32 (rank e i.val + 1)) (i : Fin 1024) :
    subi (shapeCast S1024 x shapeCasts_S1024x1_S1024) (broadcastInDim S1024 ![] bcast_S_S1024 (constantI S_ 32 1#32)) (ix1 i)
      = BitVec.ofNat 32 (rank e i.val) := by
  have h1 := rank_le e i.val
  have h2 := i.isLt
  rw [subi_ap, bc0, constantI_at, cast21 _ _ i (0 : Fin 1) i (by omega), h]
  exact Predicate.sub_one_ofNat _ (by omega) (by omega)

theorem kept_bit (x : IVec S1024x1 32) {e : Nat → Nat} (h : ∀ i : Fin 1024, x (ix2 i (0 : Fin 1)) = BitVec.ofNat 32 (rank e i.val + 1)) (i : Fin 1024) :
    cmpi .slt (subi (shapeCast S1024 x shapeCasts_S1024x1_S1024) (broadcastInDim S1024 ![] bcast_S_S1024 (constantI S_ 32 1#32)))
      (broadcastInDim S1024 ![] bcast_S_S1024 (constantI S_ 32 6#32)) (ix1 i) = BitVec.ofBool (decide (rank e i.val < 6)) := by
  have h1 := rank_le e i.val
  have h2 := i.isLt
  rw [cmpi_at, rank_word x h, bc0]
  exact cmpi_slt_ofNat (by omega) (by decide)

section Step5
variable {c : Nat} (hc : c < 32) {e : Nat → Nat} (he : ∀ i, e i < 128)
  (h4 : (X main_v4 : IVec S_ 32) ix0 = BitVec.ofNat 32 c)
  (h5 : ∀ i : Fin 1024, (X main_v5 : IVec S1024 32) (ix1 i) = BitVec.ofNat 32 (e i.val))
  (h15 : ∀ i : Fin 1024, (X main_v15 : IVec S1024x1 32) (ix2 i (0 : Fin 1)) = BitVec.ofNat 32 (rank e i.val + 1))

section Rank
include h15

theorem step5_v18 (i : Fin 1024) : (StableHlo.after hostOps0_4 X main_v18 : IVec S1024 32) (ix1 i) = BitVec.ofNat 32 (rank e i.val) := by
  simp only [hostOps0_4]
  after_results_simp
  exact rank_word _ h15 i

theorem step5_v20 (i : Fin 1024) : (StableHlo.after hostOps0_4 X main_v20 : IVec S1024 1) (ix1 i) = BitVec.ofBool (decide (rank e i.val < 6)) := by
  simp only [hostOps0_4]
  after_results_simp
  exact kept_bit _ h15 i

end Rank

include hc he h4 h5 h15

theorem step5_v29 (i : Fin 1024) : (StableHlo.after hostOps0_4 X main_v29 : IVec S1024 1) (ix1 i) = BitVec.ofBool (decide (Here e c i.val)) := by
  simp only [hostOps0_4]
  after_results_simp
  refine (congrArg (fun b => IntOp.andi (IntOp.andi b _) _) (kept_bit _ h15 i)).trans ?_
  rw [cmpi_at, cmpi_at, subi_ap, bc0, bc0, bc0, muli_ap, h5]
  erw [h4]
  have h := in_four ⟨e i.val, he i.val⟩ ⟨c, hc⟩
  simp only at h
  have assoc : ∀ a b d : BitVec 1, IntOp.andi (IntOp.andi a b) d = IntOp.andi a (IntOp.andi b d) := by decide
  rw [assoc]
  refine (congrArg (IntOp.andi _) h).trans ?_
  by_cases h1 : rank e i.val < 6 <;> by_cases h2 : e i.val / 4 = c <;> simp [h1, h2, IntOp.andi]

theorem step5_v32 (i : Fin 1024) (hi : e i.val / 4 = c) :
    (StableHlo.after hostOps0_4 X main_v32 : IVec S1024 32) (ix1 i) = BitVec.ofNat 32 (e i.val % 4 * 6 + rank e i.val) := by
  simp only [hostOps0_4]
  after_results_simp
  refine (congrArg (fun b => IntOp.addi _ b) (rank_word _ h15 i)).trans ?_
  rw [muli_ap, subi_ap, bc0, bc0, muli_ap, h5]
  erw [h4]
  show (BitVec.ofNat 32 (e i.val) - BitVec.ofNat 32 c * BitVec.ofNat 32 4) * BitVec.ofNat 32 6 + BitVec.ofNat 32 (rank e i.val) = _
  rw [BitVec.ofNat_mul_ofNat, ofNat32_sub (by omega), BitVec.ofNat_mul_ofNat, BitVec.ofNat_add_ofNat]
  exact congrArg (BitVec.ofNat 32) (by omega)

end Step5

theorem step5_c7 : (StableHlo.after hostOps0_4 X main_c_7 : IVec S_ 32) ix0 = BitVec.ofNat 32 24 := by
  simp only [hostOps0_4]
  after_results_simp
  rfl

theorem step6_v33 {c : Nat} {e : Nat → Nat}
    (h29 : ∀ i : Fin 1024, (X main_v29 : IVec S1024 1) (ix1 i) = BitVec.ofBool (decide (Here e c i.val)))
    (h32 : ∀ i : Fin 1024, e i.val / 4 = c → (X main_v32 : IVec S1024 32) (ix1 i) = BitVec.ofNat 32 (e i.val % 4 * 6 + rank e i.val))
    (h7 : (X main_c_7 : IVec S_ 32) ix0 = BitVec.ofNat 32 24) (i : Fin 1024) :
    (StableHlo.after hostOps0_5 X main_v33 : IVec S1024 32) (ix1 i) = BitVec.ofNat 32 (slot e c i.val) := by
  simp only [hostOps0_5, StableHlo.TRef.binary, TRef.nullary, TRef.ternary, TRef.unary, TRef.reshape, TRef.toBuf, TRef.ofBuf, cast_eq]
  after_results_simp
  rw [select_at, h29, select_decide, bc0]
  unfold slot
  split
  · next h => exact h32 i h.2
  · exact h7

end Cert.Proof

end
-- ==== Proof.KernelRows.lean ====
/-
  The rows a device computes for the gathering kernel, over the ideal values: at the row of a kept token of one of its
  experts, the token's row times the expert's matrix.
-/
module

public import proofs.«01_k».proof.Proof.KernelSteps
public import Idealize.ShloMosaic.Lib.IdealHost

@[expose] public section

set_option maxRecDepth 16384

noncomputable section

namespace Cert.Proof

open Cert.KernelIdeal Cert.KernelIdeal.Gen

open Idealize.ShloMosaic Idealize.ShloMosaic.TcCoe Idealize.ShloMosaic.ValueIdx Idealize.ShloMosaic.Routing Idealize.ShloMosaic.WordCmp
  Idealize.ShloMosaic.StableHlo

variable (X : Valuation τ sig (Elt Ideal))

/-- Each token's row, as the scatters take it. -/
abbrev rowIdx (y : IVec S1024 32) : IVec S1024x1 32 :=
  broadcastInDim S1024x1 ![0] bcast_S1024_S1024x1_0 (select (cmpi .slt y (broadcastInDim S1024 ![] bcast_S_S1024 (constantI S_ 32 0#32)))
    (addi y (broadcastInDim S1024 ![] bcast_S_S1024 (constantI S_ 32 25#32))) y)

/-- The token of every row, before and after its own sign test. -/
abbrev numbers (y : IVec S1024 32) : IVec S24 32 :=
  extractStridedSlice S24 ![0] (Host.scatter scatter_S25_S1024x1_S1024_n_0_0_1 (fun _ b => b) (broadcastInDim S25 ![] bcast_S_S25 (constantI S_ 32 0#32))
    (rowIdx y) (iotaInDim S1024 32 0)) slices_S25_S24_0
abbrev tokenIdx (y : IVec S1024 32) : IVec S24x1 32 :=
  broadcastInDim S24x1 ![0] bcast_S24_S24x1_0 (select (cmpi .slt (numbers y) (broadcastInDim S24 ![] bcast_S_S24 (constantI S_ 32 0#32)))
    (addi (numbers y) (broadcastInDim S24 ![] bcast_S_S24 (constantI S_ 32 1024#32))) (numbers y))

/-- Which rows hold a token. -/
abbrev used (y : IVec S1024 32) : FVec Ideal S24 .f32 :=
  extractStridedSlice S24 ![0] (Host.scatter scatter_S25_S1024x1_S1024_n_0_0_1 (fun _ b => b)
    (broadcastInDim S25 ![] bcast_S_S25 (constant S_ .f32 0x00000000#32)) (rowIdx y)
    (broadcastInDim S1024 ![] bcast_S_S1024 (constant S_ .f32 0x3F800000#32))) slices_S25_S24_0

section Row
variable {y : IVec S1024 32} {c : Nat} {e : Nat → Nat} (hy : ∀ i : Fin 1024, y (ix1 i) = BitVec.ofNat 32 (slot e c i.val))
include hy

theorem rowIdx_word (i : Fin 1024) : rowIdx y (ix2 i (0 : Fin 1)) = BitVec.ofNat 32 (slot e c i.val) := by
  have h := slot_le e c i.val
  refine (bcCol _ _ i).trans ?_
  exact wrap_word _ _ _ _ (by omega) (hy i) (bc0 _ _ _)

variable {i : Fin 1024} (hi : Here e c i.val) {s : Fin 24} (hs : s.val = e i.val % 4 * 6 + rank e i.val)
include hi hs

theorem numbers_word : numbers y (ix1 s) = BitVec.ofNat 32 i.val := by
  have h1 : slot e c i.val = s.val := by unfold slot; rw [if_pos hi, hs]
  have h2 := s.isLt
  refine (slice1 0 _ _ s (by omega)).trans ?_
  refine (scatter_row _ _ _ (slot e c) (rowIdx_word hy) (slot_le e c) i _ (h1.trans (Nat.zero_add _).symm) fun j hj => ?_).trans (iota1_ap i)
  have : j = i := Fin.ext (slot_inj hi (hj.trans ((Nat.zero_add _).trans h1.symm)))
  rw [this]

theorem tokenIdx_word : tokenIdx y (ix2 s (0 : Fin 1)) = BitVec.ofNat 32 i.val := by
  have h := i.isLt
  refine (bcCol _ _ s).trans ?_
  exact wrap_word _ _ _ _ (by omega) (numbers_word hy hi hs) (bc0 _ _ _)

theorem used_one : used y (ix1 s) = (1 : EReal) := by
  have h1 : slot e c i.val = s.val := by unfold slot; rw [if_pos hi, hs]
  have h2 := s.isLt
  refine (slice1 0 _ _ s (by omega)).trans ?_
  refine (scatter_row _ _ _ (slot e c) (rowIdx_word hy) (slot_le e c) i _ (h1.trans (Nat.zero_add _).symm) fun j _ => ?_).trans ?_
  · rw [bc0, bc0]
  · rw [bc0]
    exact Ideal.ofBits_one_f32

/-- The rows as computed: the tokens' rows, the unused ones zeroed, times the experts' matrices. -/
theorem rows_product (x : FVec Ideal S1024x512 .bf16) (w : FVec Ideal S4x512x1024 .bf16) {g : Fin 4} (hg : g.val = e i.val % 4) (h : Fin 1024) :
    shapeCast S24x1024 (truncf .bf16 (Host.dotGeneral dot_S4x6x512_S4x512x1024_S4x6x1024_2_1_1_2_0_0 none
        (shapeCast S4x6x512 (truncf .bf16 (mulf
          (extf .f32 (Host.gather gather_S1024x512_S24x1_S24x512_1_0_n_n_0_1_1512 x (tokenIdx y) : FVec Ideal S24x512 .bf16) bitsLt_bf16_f32)
          (broadcastInDim S24x512 ![0, 1] bcast_S24x1_S24x512_0_1 (broadcastInDim S24x1 ![0] bcast_S24_S24x1_0 (used y)))) bitsLt_bf16_f32 :
            FVec Ideal S24x512 .bf16) shapeCasts_S24x512_S4x6x512) w) bitsLt_bf16_f32 : FVec Ideal S4x6x1024 .bf16) shapeCasts_S4x6x1024_S24x1024 (ix2 s h)
      = product (n := 4) x w i g h := by
  have hr : rank e i.val < 6 := hi.1
  refine (cast_planes _ _ g ⟨rank e i.val, hr⟩ h s (by show s.val = g.val * 6 + rank e i.val; omega)).trans ?_
  refine (StackMember.dotGeneral_stack_apply _ none _ _ g ⟨rank e i.val, hr⟩ h).trans ?_
  refine Finset.sum_congr rfl fun k _ => congrArg (fun a : EReal => a * w (ix3 g k h)) ?_
  refine (cast_rows _ _ g ⟨rank e i.val, hr⟩ k s (by show s.val = g.val * 6 + rank e i.val; omega)).trans ?_
  have e1 : (broadcastInDim S24x512 ![0, 1] bcast_S24x1_S24x512_0_1 (broadcastInDim S24x1 ![0] bcast_S24_S24x1_0 (used y))) (ix2 s k)
      = (1 : EReal) := (bcRows _ _ _ s k).trans (used_one hy hi hs)
  have e2 : Host.gather gather_S1024x512_S24x1_S24x512_1_0_n_n_0_1_1512 x (tokenIdx y) (ix2 s k) = x (ix2 i k) :=
    gather_row _ rfl rfl rfl rfl rfl _ _ s k i (tokenIdx_word hy hi hs) (by decide)
  exact (congrArg₂ (fun a b : EReal => a * b) e2 e1).trans (mul_one _)

end Row

theorem step7_v69 {c : Nat} {e : Nat → Nat} (h33 : ∀ i : Fin 1024, (X main_v33 : IVec S1024 32) (ix1 i) = BitVec.ofNat 32 (slot e c i.val))
    {i : Fin 1024} (hi : Here e c i.val) {s : Fin 24} (hs : s.val = e i.val % 4 * 6 + rank e i.val) {g : Fin 4} (hg : g.val = e i.val % 4) (h : Fin 1024) :
    (StableHlo.after hostOps0_6 X main_v69 : FVec Ideal S24x1024 .bf16) (ix2 s h) = product (n := 4) (X main_arg0) (X main_arg3) i g h := by
  simp only [hostOps0_6]
  after_results_simp
  exact rows_product h33 hi hs _ _ hg h

end Cert.Proof

end
-- ==== Proof.KernelTail.lean ====
/-
  The kernel program's host operations after the gathering kernel, read at an index: each device picks, for each of its
  32 tokens, the gathered row of that token, and zeroes it if the token was not kept.
-/
module

public import proofs.«01_k».proof.Proof.KernelSteps

@[expose] public section

set_option maxRecDepth 16384

noncomputable section

namespace Cert.Proof

open Cert.KernelIdeal Cert.KernelIdeal.Gen

open Idealize.ShloMosaic Idealize.ShloMosaic.TcCoe Idealize.ShloMosaic.ValueIdx Idealize.ShloMosaic.Routing Idealize.ShloMosaic.WordCmp
  Idealize.ShloMosaic.StableHlo

variable {F : FTy → Type} [FloatOps F] (X : Valuation τ sig (Elt F))

/-- The numbers of a device's own tokens, before and after the sign test. -/
abbrev own (z : IVec S_ 32) : IVec S32 32 :=
  addi (broadcastInDim S32 ![] bcast_S_S32 (muli z (constantI S_ 32 32#32))) (iotaInDim S32 32 0)
abbrev ownIdx (y : IVec S32 32) : IVec S32x1 32 :=
  broadcastInDim S32x1 ![0] bcast_S32_S32x1_0 (select (cmpi .slt y (broadcastInDim S32 ![] bcast_S_S32 (constantI S_ 32 0#32)))
    (addi y (broadcastInDim S32 ![] bcast_S_S32 (constantI S_ 32 1024#32))) y)

theorem own_word (z : IVec S_ 32) {c : Nat} (hz : z ix0 = BitVec.ofNat 32 c) (t : Fin 32) : own z (ix1 t) = BitVec.ofNat 32 (32 * c + t.val) := by
  rw [own, addi_ap, bc0, muli_ap, hz, iota1_ap]
  show BitVec.ofNat 32 c * BitVec.ofNat 32 32 + BitVec.ofNat 32 t.val = _
  rw [BitVec.ofNat_mul_ofNat, BitVec.ofNat_add_ofNat, Nat.mul_comm]

theorem ownIdx_word (y : IVec S32 32) {k : Nat} (hk : k < 2 ^ 31) (t : Fin 32) (hy : y (ix1 t) = BitVec.ofNat 32 k) :
    ownIdx y (ix2 t (0 : Fin 1)) = BitVec.ofNat 32 k :=
  (bcCol _ _ t).trans (wrap_word _ _ _ _ hk hy (bc0 _ _ _))

/-- A vector over the tokens read at a device's own. -/
theorem own_entry {α : Type} (x : S1024.Idx → α) (y : IVec S32 32) (t : Fin 32) (i : Fin 1024) (hy : y (ix1 t) = BitVec.ofNat 32 i.val) :
    Host.gather gather_S1024_S32x1_S32_n_0_n_n_0_1_1 x (ownIdx y) (ix1 t) = x (ix1 i) :=
  gather_take1 _ rfl rfl rfl rfl x _ t i (ownIdx_word y (by have := i.isLt; omega) t hy) (by decide)

section Tail1
variable {c : Nat} {e : Nat → Nat} (h4 : (X main_v4 : IVec S_ 32) ix0 = BitVec.ofNat 32 c) {t : Fin 32} {i : Fin 1024} (hi : i.val = 32 * c + t.val)
include h4 hi

theorem tail1_v74 : (StableHlo.after hostOps1 X main_v74 : IVec S32 32) (ix1 t) = BitVec.ofNat 32 i.val := by
  simp only [hostOps1]
  after_results_simp
  exact hi ▸ own_word _ h4 t

theorem tail1_v81 (h5 : (X main_v5 : IVec S1024 32) (ix1 i) = BitVec.ofNat 32 (e i.val)) :
    (StableHlo.after hostOps1 X main_v81 : IVec S32 32) (ix1 t) = BitVec.ofNat 32 (e i.val) := by
  simp only [hostOps1]
  after_results_simp
  exact (own_entry _ _ t i (hi ▸ own_word _ h4 t)).trans h5

theorem tail1_v88 (h18 : (X main_v18 : IVec S1024 32) (ix1 i) = BitVec.ofNat 32 (rank e i.val)) :
    (StableHlo.after hostOps1 X main_v88 : IVec S32 32) (ix1 t) = BitVec.ofNat 32 (rank e i.val) := by
  simp only [hostOps1]
  after_results_simp
  exact (own_entry _ _ t i (hi ▸ own_word _ h4 t)).trans h18

end Tail1

theorem tail1_c21 : (StableHlo.after hostOps1 X main_c_21 : IVec S_ 32) ix0 = BitVec.ofNat 32 0 := by
  simp only [hostOps1]
  after_results_simp
  rfl

theorem tail1_c22 : (StableHlo.after hostOps1 X main_c_22 : IVec S_ 32) ix0 = BitVec.ofNat 32 5 := by
  simp only [hostOps1]
  after_results_simp
  rfl

theorem tail2_v89 (h21 : (X main_c_21 : IVec S_ 32) ix0 = BitVec.ofNat 32 0) (h22 : (X main_c_22 : IVec S_ 32) ix0 = BitVec.ofNat 32 5)
    {t : Fin 32} {k : Nat} (hk : k < 2 ^ 31) (h88 : (X main_v88 : IVec S32 32) (ix1 t) = BitVec.ofNat 32 k) :
    (StableHlo.after hostOps1_1 X main_v89 : IVec S32 32) (ix1 t) = BitVec.ofNat 32 (min k 5) := by
  simp only [hostOps1_1, StableHlo.TRef.binary, TRef.nullary, TRef.ternary, TRef.unary, TRef.reshape, TRef.toBuf, TRef.ofBuf, cast_eq]
  after_results_simp
  have e1 : ∀ (a b : IVec S_ 32) (x : IVec S32 32), a ix0 = BitVec.ofNat 32 5 → b ix0 = BitVec.ofNat 32 0 → x (ix1 t) = BitVec.ofNat 32 k →
      minsi (broadcastInDim S32 ![] bcast_S_S32 (id a)) (maxsi (broadcastInDim S32 ![] bcast_S_S32 (id b)) x) (ix1 t) = BitVec.ofNat 32 (min k 5) := by
    intro a b x ha hb hx
    show IntOp.minsi (broadcastInDim S32 ![] bcast_S_S32 a (ix1 t)) (IntOp.maxsi (broadcastInDim S32 ![] bcast_S_S32 b (ix1 t)) (x (ix1 t))) = _
    rw [bc0, bc0, ha, hb, hx, clip_word hk (by decide) (by decide), Nat.max_eq_left (Nat.zero_le k)]
  exact e1 _ _ _ h22 h21 h88

theorem tail3_c23 : (StableHlo.after hostOps1_2 X main_c_23 : IVec S_ 32) ix0 = BitVec.ofNat 32 4 := by
  simp only [hostOps1_2]
  after_results_simp
  rfl

theorem tail4_v90 (h23 : (X main_c_23 : IVec S_ 32) ix0 = BitVec.ofNat 32 4) {t : Fin 32} {k : Nat} (hk : k < 2 ^ 31)
    (h81 : (X main_v81 : IVec S32 32) (ix1 t) = BitVec.ofNat 32 k) :
    (StableHlo.after hostOps1_3 X main_v90 : IVec S32 32) (ix1 t) = BitVec.ofNat 32 (k / 4) := by
  simp only [hostOps1_3, StableHlo.TRef.binary, TRef.nullary, TRef.ternary, TRef.unary, TRef.reshape, TRef.toBuf, TRef.ofBuf, cast_eq]
  after_results_simp
  exact pyDiv_ap bcast_S_S32 _ _ (ix1 t) h81 h23 hk (by decide) (by decide)

theorem tail5_v92 {t : Fin 32} {k : Nat} (h90 : (X main_v90 : IVec S32 32) (ix1 t) = BitVec.ofNat 32 k) :
    (StableHlo.after hostOps1_4 X main_v92 : IVec S32 32) (ix1 t) = BitVec.ofNat 32 (k * 24) := by
  simp only [hostOps1_4]
  after_results_simp
  rw [muli_ap, bc0, h90]
  exact BitVec.ofNat_mul_ofNat ..

theorem tail5_c25 : (StableHlo.after hostOps1_4 X main_c_25 : IVec S_ 32) ix0 = BitVec.ofNat 32 4 := by
  simp only [hostOps1_4]
  after_results_simp
  rfl

theorem tail6_v93 (h25 : (X main_c_25 : IVec S_ 32) ix0 = BitVec.ofNat 32 4) {t : Fin 32} {k : Nat} (hk : k < 2 ^ 31)
    (h81 : (X main_v81 : IVec S32 32) (ix1 t) = BitVec.ofNat 32 k) :
    (StableHlo.after hostOps1_5 X main_v93 : IVec S32 32) (ix1 t) = BitVec.ofNat 32 (k % 4) := by
  simp only [hostOps1_5, StableHlo.TRef.binary, TRef.nullary, TRef.ternary, TRef.unary, TRef.reshape, TRef.toBuf, TRef.ofBuf, cast_eq]
  after_results_simp
  exact pyRem_ap bcast_S_S32 _ _ (ix1 t) h81 h25 hk (by decide) (by decide)

/-- The gathered row of a token: 24 rows a device, 6 an expert. -/
abbrev flat (a b d : IVec S32 32) : IVec S32 32 := addi (addi a (muli b (broadcastInDim S32 ![] bcast_S_S32 (constantI S_ 32 6#32)))) d
abbrev flatIdx (f : IVec S32 32) : IVec S32x1 32 :=
  broadcastInDim S32x1 ![0] bcast_S32_S32x1_0 (select (cmpi .slt f (broadcastInDim S32 ![] bcast_S_S32 (constantI S_ 32 0#32)))
    (addi f (broadcastInDim S32 ![] bcast_S_S32 (constantI S_ 32 768#32))) f)

/-- What a device returns for its token `t`: the gathered row times 1 if the token was kept, times 0 if not. -/
theorem picked (G : FVec Ideal S768x1024 .bf16) (k : IVec S1024 1) (y a b d : IVec S32 32) {t : Fin 32} {i : Fin 1024} {na nb nd : Nat} {p : Prop} [Decidable p]
    (hy : y (ix1 t) = BitVec.ofNat 32 i.val) (ha : a (ix1 t) = BitVec.ofNat 32 na) (hb : b (ix1 t) = BitVec.ofNat 32 nb)
    (hd : d (ix1 t) = BitVec.ofNat 32 nd) (hk : k (ix1 i) = BitVec.ofBool (decide p)) {q : Fin 768} (hq : q.val = na + nb * 6 + nd) (h : Fin 1024) :
    mulf (extf .f32 (Host.gather gather_S768x1024_S32x1_S32x1024_1_0_n_n_0_1_11024 G (flatIdx (flat a b d)) : FVec Ideal S32x1024 .bf16) bitsLt_bf16_f32)
      (broadcastInDim S32x1024 ![0, 1] bcast_S32x1_S32x1024_0_1 (uitofp .f32 (broadcastInDim S32x1 ![0] bcast_S32_S32x1_0
        (Host.gather gather_S1024_S32x1_S32_n_0_n_n_0_1_1 k (ownIdx y))) : FVec Ideal S32x1 .f32)) (ix2 t h)
      = if p then G (ix2 q h) else (0 : EReal) := by
  have hq' := q.isLt
  have e0 : flat a b d (ix1 t) = BitVec.ofNat 32 q.val := by
    rw [flat, addi_ap, addi_ap, muli_ap, bc0, ha, hb, hd, hq]
    show BitVec.ofNat 32 na + BitVec.ofNat 32 nb * BitVec.ofNat 32 6 + BitVec.ofNat 32 nd = _
    rw [BitVec.ofNat_mul_ofNat, BitVec.ofNat_add_ofNat, BitVec.ofNat_add_ofNat]
  have e1 : Host.gather gather_S768x1024_S32x1_S32x1024_1_0_n_n_0_1_11024 G (flatIdx (flat a b d)) (ix2 t h) = G (ix2 q h) :=
    gather_row _ rfl rfl rfl rfl rfl _ _ t h q ((bcCol _ _ t).trans (wrap_word _ _ _ _ (by omega) e0 (bc0 _ _ _))) (by decide)
  have e2 : (broadcastInDim S32x1024 ![0, 1] bcast_S32x1_S32x1024_0_1 (uitofp .f32 (broadcastInDim S32x1 ![0] bcast_S32_S32x1_0
      (Host.gather gather_S1024_S32x1_S32_n_0_n_n_0_1_1 k (ownIdx y))) : FVec Ideal S32x1 .f32)) (ix2 t h) = if p then (1 : EReal) else 0 := by
    refine (bcRows bcast_S32_S32x1_0 _ (uitofp .f32 (Host.gather gather_S1024_S32x1_S32_n_0_n_n_0_1_1 k (ownIdx y)) : FVec Ideal S32 .f32) t h).trans ?_
    show ((((Host.gather gather_S1024_S32x1_S32_n_0_n_n_0_1_1 k (ownIdx y)) (ix1 t)).toNat : ℝ) : EReal) = _
    rw [own_entry k y t i hy, hk]
    by_cases hp : p <;> simp [hp]
  refine (congrArg₂ (fun a b : EReal => a * b) e1 e2).trans ?_
  by_cases hp : p
  · rw [if_pos hp, if_pos hp]; exact mul_one _
  · rw [if_neg hp, if_neg hp]; exact mul_zero _

theorem tail7_v116 (X : Valuation τ sig (Elt Ideal)) {t : Fin 32} {i : Fin 1024} {na nb nd : Nat} {p : Prop} [Decidable p]
    (h74 : (X main_v74 : IVec S32 32) (ix1 t) = BitVec.ofNat 32 i.val) (h92 : (X main_v92 : IVec S32 32) (ix1 t) = BitVec.ofNat 32 na)
    (h93 : (X main_v93 : IVec S32 32) (ix1 t) = BitVec.ofNat 32 nb) (h89 : (X main_v89 : IVec S32 32) (ix1 t) = BitVec.ofNat 32 nd)
    (h20 : (X main_v20 : IVec S1024 1) (ix1 i) = BitVec.ofBool (decide p)) {q : Fin 768} (hq : q.val = na + nb * 6 + nd) (h : Fin 1024) :
    (StableHlo.after hostOps1_6 X main_v116 : FVec Ideal S32x1024 .f32) (ix2 t h)
      = if p then (X main_v70 : FVec Ideal S768x1024 .bf16) (ix2 q h) else (0 : EReal) := by
  simp only [hostOps1_6]
  after_results_simp
  exact picked _ _ _ _ _ _ h74 h92 h93 h89 h20 hq h

end Cert.Proof

end
-- ==== Proof.KernelValue.lean ====
/-
  What the kernel program returns, over the ideal values: for a kept token its row times its expert's matrix, wherever
  that expert lives, and 0 for a token that is not kept.
-/
module

public import proofs.«01_k».proof.Proof.KernelRows
public import proofs.«01_k».proof.Proof.KernelTail

@[expose] public section

set_option maxRecDepth 16384

noncomputable section

namespace Cert.Proof

open Cert.KernelIdeal Cert.KernelIdeal.Gen

open Idealize.ShloMosaic Idealize.ShloMosaic.TcCoe Idealize.ShloMosaic.ValueIdx Idealize.ShloMosaic.Routing Idealize.ShloMosaic.WordCmp
  Idealize.ShloMosaic.StableHlo

variable (m : (ℓ : Loc nD τ sig) → Buf (Elt Ideal) ℓ) {e : Nat → Nat} (he : ∀ i, e i < 128)
  (h2 : ∀ (c : Dev nD) (i : Fin 1024), (m ((c.tc : Thread nD τ).loc main_arg2) : IVec S1024x1 32) (ix2 i (0 : Fin 1)) = BitVec.ofNat 32 (e i.val))

theorem at_v4 (c : Dev nD) : (V5 m c main_v4 : IVec S_ 32) ix0 = BitVec.ofNat 32 c.val := by
  rw [V5_of m c main_v4 (by decide), V4_of m c main_v4 (by decide), V3_of m c main_v4 (by decide), V2_of m c main_v4 (by decide)]
  exact step1_v4 _ c

include h2

theorem at_v5 (c : Dev nD) (i : Fin 1024) : (V2 m c main_v5 : IVec S1024 32) (ix1 i) = BitVec.ofNat 32 (e i.val) := by
  rw [V2_of m c main_v5 (by decide)]
  exact step1_v5 _ c (h2 c) i

theorem at_v5' (c : Dev nD) (i : Fin 1024) : (V4 m c main_v5 : IVec S1024 32) (ix1 i) = BitVec.ofNat 32 (e i.val) := by
  rw [V4_of m c main_v5 (by decide), V3_of m c main_v5 (by decide)]
  exact at_v5 m h2 c i

include he

theorem at_v15 (c : Dev nD) (i : Fin 1024) : (V4 m c main_v15 : IVec S1024x1 32) (ix2 i (0 : Fin 1)) = BitVec.ofNat 32 (rank e i.val + 1) := by
  refine step4_v15 _ he (fun i k => ?_) (step3_v14 _ (at_v5 m h2 c)) i
  show (V3 m c main_v13 : IVec S1024x128 32) (ix2 i k) = _
  rw [V3_of m c main_v13 (by decide)]
  exact step2_v13 _ (step1_v12 _ c he (h2 c)) i k

theorem at_v33 (c : Dev nD) (i : Fin 1024) : (V6 m c main_v33 : IVec S1024 32) (ix1 i) = BitVec.ofNat 32 (slot e c.val i.val) := by
  have h4 : (V4 m c main_v4 : IVec S_ 32) ix0 = BitVec.ofNat 32 c.val := by
    have := at_v4 m c
    rwa [V5_of m c main_v4 (by decide)] at this
  exact step6_v33 _ (step5_v29 _ c.isLt he h4 (at_v5' m h2 c) (at_v15 m he h2 c))
    (step5_v32 _ c.isLt he h4 (at_v5' m h2 c) (at_v15 m he h2 c)) (step5_c7 _) i

/-- The row a device computes for a kept token of one of its experts. -/
theorem at_v69 (c : Dev nD) {i : Fin 1024} (hi : Here e c.val i.val) {s : Fin 24} (hs : s.val = e i.val % 4 * 6 + rank e i.val) {g : Fin 4}
    (hg : g.val = e i.val % 4) (h : Fin 1024) :
    (V7 m c main_v69 : FVec Ideal S24x1024 .bf16) (ix2 s h)
      = product (n := 4) (m ((c.tc : Thread nD τ).loc main_arg0)) (m ((c.tc : Thread nD τ).loc main_arg3)) i g h := by
  have e0 : V6 m c main_arg0 = V0 m c main_arg0 := by
    rw [V6_of m c main_arg0 (by decide), V5_of m c main_arg0 (by decide), V4_of m c main_arg0 (by decide), V3_of m c main_arg0 (by decide),
      V2_of m c main_arg0 (by decide), V1_of m c main_arg0 (by decide)]
  have e3 : V6 m c main_arg3 = V0 m c main_arg3 := by
    rw [V6_of m c main_arg3 (by decide), V5_of m c main_arg3 (by decide), V4_of m c main_arg3 (by decide), V3_of m c main_arg3 (by decide),
      V2_of m c main_arg3 (by decide), V1_of m c main_arg3 (by decide)]
  refine (step7_v69 _ (at_v33 m he h2 c) hi hs hg h).trans ?_
  exact congrArg₂ (fun x w => product (n := 4) x w i g h) e0 e3

/-- What device `c` returns for its token `t`. -/
theorem kernel_value (c : Dev nD) {t : Fin 32} {i : Fin 1024} (hi : i.val = 32 * c.val + t.val) (d : Dev nD) (hd : d.val = e i.val / 4) {g : Fin 4}
    (hg : g.val = e i.val % 4) (h : Fin 1024) :
    (V15 m (left m) c main_v116 : FVec Ideal S32x1024 .f32) (ix2 t h)
      = if rank e i.val < 6 then product (n := 4) (m ((d.tc : Thread nD τ).loc main_arg0)) (m ((d.tc : Thread nD τ).loc main_arg3)) i g h else (0 : EReal) := by
  have hei := he i.val
  have hri := rank_le e i.val
  have hil := i.isLt
  have h4 : (V8 m (left m) c main_v4 : IVec S_ 32) ix0 = BitVec.ofNat 32 c.val := by
    rw [V8_of m (left m) c main_v4 (by decide), V7_of m c main_v4 (by decide), V6_of m c main_v4 (by decide)]
    exact at_v4 m c
  have h5 : (V8 m (left m) c main_v5 : IVec S1024 32) (ix1 i) = BitVec.ofNat 32 (e i.val) := by
    rw [V8_of m (left m) c main_v5 (by decide), V7_of m c main_v5 (by decide), V6_of m c main_v5 (by decide), V5_of m c main_v5 (by decide)]
    exact at_v5' m h2 c i
  have h18 : (V8 m (left m) c main_v18 : IVec S1024 32) (ix1 i) = BitVec.ofNat 32 (rank e i.val) := by
    rw [V8_of m (left m) c main_v18 (by decide), V7_of m c main_v18 (by decide), V6_of m c main_v18 (by decide)]
    exact step5_v18 _ (at_v15 m he h2 c) i
  have h20 : (V14 m (left m) c main_v20 : IVec S1024 1) (ix1 i) = BitVec.ofBool (decide (rank e i.val < 6)) := by
    rw [V14_of m (left m) c main_v20 (by decide), V13_of m (left m) c main_v20 (by decide), V12_of m (left m) c main_v20 (by decide),
      V11_of m (left m) c main_v20 (by decide), V10_of m (left m) c main_v20 (by decide), V9_of m (left m) c main_v20 (by decide),
      V8_of m (left m) c main_v20 (by decide), V7_of m c main_v20 (by decide), V6_of m c main_v20 (by decide)]
    exact step5_v20 _ (at_v15 m he h2 c) i
  have h74 : (V14 m (left m) c main_v74 : IVec S32 32) (ix1 t) = BitVec.ofNat 32 i.val := by
    rw [V14_of m (left m) c main_v74 (by decide), V13_of m (left m) c main_v74 (by decide), V12_of m (left m) c main_v74 (by decide),
      V11_of m (left m) c main_v74 (by decide), V10_of m (left m) c main_v74 (by decide)]
    exact tail1_v74 _ h4 hi
  have h81 : (V11 m (left m) c main_v81 : IVec S32 32) (ix1 t) = BitVec.ofNat 32 (e i.val) := by
    rw [V11_of m (left m) c main_v81 (by decide), V10_of m (left m) c main_v81 (by decide)]
    exact tail1_v81 _ h4 hi h5
  have h89 : (V14 m (left m) c main_v89 : IVec S32 32) (ix1 t) = BitVec.ofNat 32 (min (rank e i.val) 5) := by
    rw [V14_of m (left m) c main_v89 (by decide), V13_of m (left m) c main_v89 (by decide), V12_of m (left m) c main_v89 (by decide),
      V11_of m (left m) c main_v89 (by decide)]
    exact tail2_v89 _ (tail1_c21 _) (tail1_c22 _) (by omega) (tail1_v88 _ h4 hi h18)
  have h92 : (V14 m (left m) c main_v92 : IVec S32 32) (ix1 t) = BitVec.ofNat 32 (e i.val / 4 * 24) := by
    rw [V14_of m (left m) c main_v92 (by decide)]
    exact tail5_v92 _ (tail4_v90 _ (tail3_c23 _) (by omega) h81)
  have h93 : (V14 m (left m) c main_v93 : IVec S32 32) (ix1 t) = BitVec.ofNat 32 (e i.val % 4) := by
    refine tail6_v93 _ (tail5_c25 _) (by omega) ?_
    show (V13 m (left m) c main_v81 : IVec S32 32) (ix1 t) = _
    rw [V13_of m (left m) c main_v81 (by decide), V12_of m (left m) c main_v81 (by decide)]
    exact h81
  have h70 : (V14 m (left m) c main_v70 : FVec Ideal S768x1024 .bf16) = gathered (mine m) := by
    rw [V14_of m (left m) c main_v70 (by decide), V13_of m (left m) c main_v70 (by decide), V12_of m (left m) c main_v70 (by decide),
      V11_of m (left m) c main_v70 (by decide), V10_of m (left m) c main_v70 (by decide), V9_of m (left m) c main_v70 (by decide)]
    exact (Function.update_self ..).trans (left_v70 m c)
  refine (tail7_v116 _ h74 h92 h93 h89 h20 (q := ⟨e i.val / 4 * 24 + e i.val % 4 * 6 + min (rank e i.val) 5, by omega⟩) rfl h).trans ?_
  split
  · next hk =>
    rw [h70]
    have hs : e i.val % 4 * 6 + rank e i.val < 24 := by omega
    refine Eq.trans ?_ (at_v69 m he h2 d (i := i) ⟨hk, hd.symm⟩ (s := ⟨e i.val % 4 * 6 + rank e i.val, hs⟩) rfl hg h)
    unfold gathered mine
    have e1 : (⟨(e i.val / 4 * 24 + e i.val % 4 * 6 + min (rank e i.val) 5) / 24, by omega⟩ : Dev nD) = d := Fin.ext (by
      show (e i.val / 4 * 24 + e i.val % 4 * 6 + min (rank e i.val) 5) / 24 = d.val; omega)
    refine congr (congrArg (fun d : Dev nD => (V7 m d main_v69 : FVec Ideal S24x1024 .bf16)) e1) (funext fun a => ?_)
    match a with
    | ⟨0, _⟩ => exact Fin.ext (by show (e i.val / 4 * 24 + e i.val % 4 * 6 + min (rank e i.val) 5) % 24 = e i.val % 4 * 6 + rank e i.val; omega)
    | ⟨1, _⟩ => rfl
  · rfl

end Cert.Proof

end
-- ==== Proof.ReferenceValue.lean ====
/-
  What the reference program returns, over the ideal values: for a token whose rank is below 6 its row times its expert's
  matrix, and 0 for any other token.
-/
module

public import proofs.«01_k».proof.Proof.Reads
public import proofs.«01_k».proof.Proof.Gen.ReferenceIdeal.Run

@[expose] public section

set_option maxRecDepth 16384

noncomputable section

namespace Cert.Proof

open Cert.ReferenceIdeal Cert.ReferenceIdeal.Facts₀ Cert.ReferenceIdeal.Facts

open Idealize.ShloMosaic Idealize.ShloMosaic.ValueIdx Idealize.ShloMosaic.Routing Idealize.ShloMosaic.WordCmp

variable [Cert.ReferenceIdeal.Facts]

/-- The experts as a vector, and which expert each token names, one column per expert. -/
abbrev experts (r : IVec S1024x1 32) : IVec S1024 32 := shapeCast S1024 r shapeCasts_S1024x1_S1024
abbrev names (r : IVec S1024x1 32) : IVec S1024x128 32 :=
  extui 32 (cmpi .eq (broadcastInDim S1024x128 ![0, 1] bcast_S1024x1_S1024x128_0_1 (broadcastInDim S1024x1 ![0] bcast_S1024_S1024x1_0 (experts r)))
    (broadcastInDim S1024x128 ![0, 1] bcast_S1x128_S1024x128_0_1 (broadcastInDim S1x128 ![1] bcast_S128_S1x128_1 (iotaInDim S128 32 0)))) natLt_1_32

/-- How many tokens up to each name each expert. -/
abbrev counts (r : IVec S1024x1 32) : IVec S1024x128 32 :=
  Host.reduceWindow IntOp.addi ![1024, 1] ![1, 1] ![1023, 0] ![0, 0] (names r) (broadcastInDim S_ ![] bcast_S_S_ (constantI S_ 32 0#32))
    reduceWindows_S1024x128_S1024x128_w1024s1p1023_0_w1s1p0_0 h_S_

/-- Whether a token is kept. -/
abbrev isKept (r : IVec S1024x1 32) : IVec S1024 1 :=
  Host.reduce IntOp.ori (andi (cmpi .ne (names r) (broadcastInDim S1024x128 ![] bcast_S_S1024x128 (constantI S_ 32 0#32)))
    (cmpi .sle (counts r) (broadcastInDim S1024x128 ![] bcast_S_S1024x128 (constantI S_ 32 6#32)))) (constantI S_ 1 0#1) reducesTo_S1024x128_S1024_d1 h_S_

/-- Each token's matrix number. -/
abbrev matrixIdx (r : IVec S1024x1 32) : IVec S1024x1 32 :=
  broadcastInDim S1024x1 ![0] bcast_S1024_S1024x1_0 (select (cmpi .slt (experts r) (broadcastInDim S1024 ![] bcast_S_S1024 (constantI S_ 32 0#32)))
    (addi (experts r) (broadcastInDim S1024 ![] bcast_S_S1024 (constantI S_ 32 128#32))) (experts r))

/-- The reference's result. -/
abbrev reference (x : FVec Ideal S1024x512 .bf16) (r : IVec S1024x1 32) (w : FVec Ideal S128x512x1024 .bf16) : FVec Ideal S1024x1024 .f32 :=
  select (broadcastInDim S1024x1024 ![0, 1] bcast_S1024x1_S1024x1024_0_1 (broadcastInDim S1024x1 ![0] bcast_S1024_S1024x1_0 (isKept r)))
    (Host.dotGeneral dot_S1024x512_S1024x512x1024_S1024x1024_1_1_n_2_0_0 none (extf .f32 x bitsLt_bf16_f32)
      (Host.gather gather_S128x512x1024_S1024x1_S1024x512x1024_12_0_n_n_0_1_15121024 (extf .f32 w bitsLt_bf16_f32) (matrixIdx r)))
    (broadcastInDim S1024x1024 ![] bcast_S_S1024x1024 (id (constant S_ .f32 0x00000000#32)))

variable {r : IVec S1024x1 32} {e : Nat → Nat} (he : ∀ i, e i < 128) (hr : ∀ i : Fin 1024, r (ix2 i (0 : Fin 1)) = BitVec.ofNat 32 (e i.val))

section
include hr

theorem experts_word (i : Fin 1024) : experts r (ix1 i) = BitVec.ofNat 32 (e i.val) :=
  (cast21 _ _ i (0 : Fin 1) i (by omega)).trans (hr i)

include he

theorem names_word (i : Fin 1024) (k : Fin 128) : names r (ix2 i k) = BitVec.ofNat 32 (if e i.val = k.val then 1 else 0) := by
  have h1 := he i.val
  have h3 := k.isLt
  rw [names, extui_apply, cmpi_at, bcRows, bcCols, iota1_ap, experts_word hr, cmpi_eq_ofNat (by omega) (by omega), setWidth_ofBool]

theorem counts_word (i : Fin 1024) (k : Fin 128) : counts r (ix2 i k) = BitVec.ofNat 32 (Nat.count (fun j => e j = k.val) (i.val + 1)) := by
  refine (cumsum_rows (R := 1024) (Rm1 := 1023) rfl _ (fun i k => if e i = k then 1 else 0) (names_word he hr) _ rfl _ _ i k).trans ?_
  exact word_of_count (fun j => e j = k.val) _

theorem isKept_iff (i : Fin 1024) : isKept r (ix1 i) = 1#1 ↔ rank e i.val < 6 := by
  have hi := i.isLt
  have h : ∀ k : Fin 128, andi (cmpi .ne (names r) (broadcastInDim S1024x128 ![] bcast_S_S1024x128 (constantI S_ 32 0#32)))
      (cmpi .sle (counts r) (broadcastInDim S1024x128 ![] bcast_S_S1024x128 (constantI S_ 32 6#32))) (ix2 i k) = 1#1
      ↔ e i.val = k.val ∧ Nat.count (fun j => e j = k.val) (i.val + 1) ≤ 6 := fun k => by
    have hc : Nat.count (fun j => e j = k.val) (i.val + 1) ≤ i.val + 1 := Nat.count_le _
    rw [andi_at, cmpi_at, cmpi_at, bc0, bc0, names_word he hr, counts_word he hr, constantI_at, constantI_at,
      show (6#32 : BitVec 32) = BitVec.ofNat 32 6 from rfl, cmpi_sle_ofNat (w := 32) (by omega) (by decide)]
    by_cases h1 : e i.val = k.val <;> by_cases h2 : Nat.count (fun j => e j = k.val) (i.val + 1) ≤ 6 <;> simp [h1, h2] <;> decide
  refine (any_of_row _ i).trans ⟨?_, fun hk => ⟨⟨e i.val, he i.val⟩, (h _).2 ⟨rfl, ?_⟩⟩⟩
  · rintro ⟨k, hk⟩
    obtain ⟨h1, h2⟩ := (h k).1 hk
    rw [Nat.count_succ, ← h1, if_pos rfl] at h2
    exact h2
  · show Nat.count (fun j => e j = e i.val) (i.val + 1) ≤ 6
    rw [Nat.count_succ, if_pos rfl]
    exact hk

theorem reference_value (x : FVec Ideal S1024x512 .bf16) (w : FVec Ideal S128x512x1024 .bf16) (i : Fin 1024) (h : Fin 1024) :
    reference x r w (ix2 i h) = if rank e i.val < 6 then product (n := 128) x w i ⟨e i.val, he i.val⟩ h else (0 : EReal) := by
  have hei := he i.val
  rw [reference, select_at, bcRows, bc0]
  by_cases hk : rank e i.val < 6
  · rw [if_pos hk, (isKept_iff he hr i).2 hk, WordCmp.select_one, row_times_matrix]
    refine Finset.sum_congr rfl fun k _ => congrArg (fun a : EReal => x (ix2 i k) * a) ?_
    exact pick_matrix (extf .f32 w bitsLt_bf16_f32 : FVec Ideal S128x512x1024 .f32) _ i k h ⟨e i.val, hei⟩
      ((bcCol _ _ i).trans (wrap_word _ _ _ _ (by omega) (experts_word hr i) (bc0 _ _ _)))
  · rw [if_neg hk, eq_zero_of_ne_one fun h1 => hk ((isKept_iff he hr i).1 h1), WordCmp.select_zero]
    exact Ideal.ofBits_zero_f32

end

end Cert.Proof

end
-- ==== Proof.Value.lean ====
/-
  The values: where every token names one of the 128 experts, the kernel's 32 results are the blocks of what the reference returns.
-/
module

public import proofs.«01_k».proof.Proof.KernelValue
public import proofs.«01_k».proof.Proof.ReferenceValue
public import proofs.«01_k».proof.Proof.Frames

@[expose] public section

set_option maxRecDepth 16384

noncomputable section

namespace Cert.Proof

open Idealize.ShloMosaic Idealize.ShloMosaic.TcCoe Idealize.ShloMosaic.ValueIdx Idealize.ShloMosaic.Routing Idealize.ShloMosaic.WordCmp
open Idealize.SL.Sem

/-- The side conditions the two printings of the precondition state. -/
theorem routed_facts : Cert.Pre_routed_KernelIdeal.Facts := ⟨by decide, by decide, by decide⟩

theorem routed_facts_reference : Cert.Pre_routed_ReferenceIdeal.Facts := ⟨by decide, by decide, by decide⟩

section
variable [Cert.Pre_routed_KernelIdeal.Facts]

open Cert.Pre_routed_KernelIdeal

/-- The precondition says that every token names one of the 128 experts. -/
theorem routed_lt (x : FVec Ideal S1024x512 .bf16) (y : FVec Ideal S512x128 .bf16) (r : IVec S1024x1 32) (w : FVec Ideal S4x512x1024 .bf16)
    (h : Cert.Pre_routed_KernelIdeal.fn (F := Ideal) x y r w = fun _ => 1#1) (i : Fin 1024) : (r (ix2 i (0 : Fin 1))).toNat < 128 := by
  haveI : Subsingleton S_.Idx := ⟨fun a b => funext fun k => k.elim0⟩
  have h1 := Host.reduce_andi_all _ _ _ _ ix0 (congrFun h ix0) (ix2 i (0 : Fin 1))
  rw [andi_at, cmpi_at, cmpi_at, bc0, bc0, constantI_at, constantI_at, show (128#32 : BitVec 32) = BitVec.ofNat 32 128 from rfl,
    andi_sge_zero_slt_ofNat (w := 32) (by decide)] at h1
  by_contra hn
  rw [decide_eq_false hn] at h1
  exact absurd h1 (by decide)

end

/-- Block `c` of the result, read at one of its 32 rows. -/
theorem block_row (v : FVec Ideal (shape2 1024 1024) .f32) (c t : Fin 32) (h : Fin 1024) (i : Fin 1024) (hi : i.val = 32 * c.val + t.val) :
    Layout.block ⟨2, ![32, 1024]⟩ ⟨2, ![1024, 1024]⟩ 0 32 c v (by decide) (ix2 t h) = v (ix2 i h) := by
  refine congrArg v (funext fun b => Fin.ext ?_)
  match b with
  | 0 => show c.val * 32 + t.val = i.val; omega
  | 1 => rfl

/-- Device `d`'s four matrices, in the whole array of 128. -/
theorem block_product (x : FVec Ideal (shape2 1024 512) .bf16) (w : FVec Ideal (shape3 128 512 1024) .bf16) (d : Fin 32) (i : Fin 1024) (g : Fin 4)
    (n : Fin 128) (hn : n.val = 4 * d.val + g.val) (h : Fin 1024) :
    product (n := 4) x (Layout.block ⟨3, ![4, 512, 1024]⟩ ⟨3, ![128, 512, 1024]⟩ 0 32 d w (by decide)) i g h = product (n := 128) x w i n h := by
  refine Finset.sum_congr rfl fun k _ => congrArg (fun a : EReal => x (ix2 i k) * a) (congrArg w (funext fun b => Fin.ext ?_))
  match b with
  | 0 => show d.val * 4 + g.val = n.val; omega
  | 1 => rfl
  | 2 => rfl

/-- What every device's result is, of arguments that hold their parts of whole arrays. -/
theorem result_block (m : (ℓ : Loc Cert.KernelIdeal.nD Cert.KernelIdeal.τ Cert.KernelIdeal.sig) → Buf (Elt Ideal) ℓ)
    (x : FVec Ideal (shape2 1024 512) .bf16) (r : IVec (shape2 1024 1) 32) (w : FVec Ideal (shape3 128 512 1024) .bf16)
    (hr : ∀ i : Fin 1024, (r (ix2 i (0 : Fin 1))).toNat < 128)
    (hx : ∀ c : Dev Cert.KernelIdeal.nD, m ((c.tc : Thread Cert.KernelIdeal.nD Cert.KernelIdeal.τ).loc Cert.KernelIdeal.main_arg0) = x)
    (h2 : ∀ c : Dev Cert.KernelIdeal.nD, m ((c.tc : Thread Cert.KernelIdeal.nD Cert.KernelIdeal.τ).loc Cert.KernelIdeal.main_arg2) = r)
    (hw : ∀ c : Dev Cert.KernelIdeal.nD, m ((c.tc : Thread Cert.KernelIdeal.nD Cert.KernelIdeal.τ).loc Cert.KernelIdeal.main_arg3)
      = Layout.block ⟨3, ![4, 512, 1024]⟩ ⟨3, ![128, 512, 1024]⟩ 0 32 c w (by decide))
    (c : Dev Cert.KernelIdeal.nD) :
    (Cert.KernelIdeal.Gen.V15 m (left m) c Cert.KernelIdeal.main_v116 : FVec Ideal (shape2 32 1024) .f32)
      = Layout.block ⟨2, ![32, 1024]⟩ ⟨2, ![1024, 1024]⟩ 0 32 c (reference x r w) (by decide) := by
  have he : ∀ i, expert r i < 128 := fun i => by
    unfold expert
    split
    · exact hr _
    · decide
  funext j
  obtain ⟨t, h, rfl⟩ : ∃ (t : Fin 32) (h : Fin 1024), j = ix2 t h := ⟨j 0, j 1, funext fun b => match b with | 0 => rfl | 1 => rfl⟩
  have hc : c.val < 32 := c.isLt
  have ht := t.isLt
  have hi : 32 * c.val + t.val < 1024 := by omega
  have hei := he (32 * c.val + t.val)
  refine (kernel_value m he (fun c i => (congrFun (h2 c) _).trans (expert_word r i)) c (i := ⟨32 * c.val + t.val, hi⟩) rfl
    ⟨expert r (32 * c.val + t.val) / 4, show _ < 32 by omega⟩ rfl (g := ⟨expert r (32 * c.val + t.val) % 4, by omega⟩) rfl h).trans ?_
  refine Eq.trans ?_ (block_row (reference x r w) c t h ⟨32 * c.val + t.val, hi⟩ rfl).symm
  rw [reference_value he (expert_word r)]
  refine if_congr Iff.rfl ?_ rfl
  rw [hx, hw]
  exact block_product x w _ _ _ _ (by show expert r (32 * c.val + t.val) = 4 * (expert r (32 * c.val + t.val) / 4) + expert r (32 * c.val + t.val) % 4; omega) h

/-- The kernel and the reference, from a memory each that agrees with the other's: what the one leaves is the other's
    result cut into 32 blocks of rows. -/
theorem algebraic : Cert.algebraic_KernelIdeal_ReferenceIdeal_pre_routed_KernelIdeal (hPre_routed_KernelIdeal := routed_facts) := by
  intro m ρ m' ρ' hp hs
  haveI := routed_facts
  refine ⟨reference (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)),
    (θ_run Cert.KernelIdeal.defs _ _).mono (fun _ h c => ⟨(h.1 c).2.trans ?_, (h.1 c).1⟩) (run_main (F := Ideal) m ρ),
    (θ_run Cert.ReferenceIdeal.defs _ _).mono (fun _ h => h 0) (Cert.ReferenceIdeal.Value.run (F := Ideal) m' ρ')⟩
  exact result_block m _ _ _
    (fun i => by
      have h := routed_lt _ _ _ _ (hp 0) i
      rw [(hs 0).2.2.1] at h
      exact h)
    (fun c => (hs c).1) (fun c => (hs c).2.2.1) (fun c => (hs c).2.2.2) c

end Cert.Proof

end
-- ==== Proof.lean ====
/- The claims of Defs.lean, assembled: the frames from Proof/Frames.lean, the values from Proof/Value.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, routed_facts, routed_facts_reference,
    frame_kernel, frame_ideal, fun m g _ => frame_ideal m g trivial, frame_reference, fun m g _ => frame_reference m g trivial,
    trivial, algebraic⟩

end Cert.Proof

end
